-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Experts [hPre_counted : Cert.Pre_counted.Facts] (m : (ℓ : Loc Cert.Experts.nD Cert.Experts.τ Cert.Experts.sig) → Buf (Elt Bits) ℓ) : Prop :=
  ∀ c : Dev Cert.Experts.nD,
    (Cert.Pre_counted.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_counted : Cert.Pre_counted.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_counted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_counted [hPre_counted : Cert.Pre_counted.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_counted.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6))
      ∧ r.2.sem = fun _ => 0)

def quiescent_Experts [hExperts : Cert.Experts.Facts] [hPre_counted : Cert.Pre_counted.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_counted : Cert.Pre_counted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_counted [hExpertsRefIdeal : Cert.ExpertsRefIdeal.Facts] [hPre_counted : Cert.Pre_counted.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_counted m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3)
      ∧ r.2.mem ((c.tc : Thread Cert.Band.nD Cert.Band.τ).loc Cert.Band.main_arg4) = m ((c.tc : Thread Cert.Band.nD Cert.Band.τ).loc Cert.Band.main_arg4)
      ∧ r.2.mem ((c.tc : Thread Cert.Band.nD Cert.Band.τ).loc Cert.Band.main_arg5) = m ((c.tc : Thread Cert.Band.nD Cert.Band.τ).loc Cert.Band.main_arg5)
      ∧ r.2.mem ((c.tc : Thread Cert.Band.nD Cert.Band.τ).loc Cert.Band.main_arg6) = m ((c.tc : Thread Cert.Band.nD Cert.Band.τ).loc Cert.Band.main_arg6)
      ∧ r.2.mem ((c.tc : Thread Cert.Band.nD Cert.Band.τ).loc Cert.Band.main_arg7) = m ((c.tc : Thread Cert.Band.nD Cert.Band.τ).loc Cert.Band.main_arg7))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4)
      ∧ r.2.mem ((c.tc : Thread Cert.BandIdeal.nD Cert.BandIdeal.τ).loc Cert.BandIdeal.main_arg5) = m ((c.tc : Thread Cert.BandIdeal.nD Cert.BandIdeal.τ).loc Cert.BandIdeal.main_arg5)
      ∧ r.2.mem ((c.tc : Thread Cert.BandIdeal.nD Cert.BandIdeal.τ).loc Cert.BandIdeal.main_arg6) = m ((c.tc : Thread Cert.BandIdeal.nD Cert.BandIdeal.τ).loc Cert.BandIdeal.main_arg6)
      ∧ r.2.mem ((c.tc : Thread Cert.BandIdeal.nD Cert.BandIdeal.τ).loc Cert.BandIdeal.main_arg7) = m ((c.tc : Thread Cert.BandIdeal.nD Cert.BandIdeal.τ).loc Cert.BandIdeal.main_arg7))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3)
      ∧ r.2.mem ((c.tc : Thread Cert.BandRefIdeal.nD Cert.BandRefIdeal.τ).loc Cert.BandRefIdeal.main_arg4) = m ((c.tc : Thread Cert.BandRefIdeal.nD Cert.BandRefIdeal.τ).loc Cert.BandRefIdeal.main_arg4)
      ∧ r.2.mem ((c.tc : Thread Cert.BandRefIdeal.nD Cert.BandRefIdeal.τ).loc Cert.BandRefIdeal.main_arg5) = m ((c.tc : Thread Cert.BandRefIdeal.nD Cert.BandRefIdeal.τ).loc Cert.BandRefIdeal.main_arg5)
      ∧ r.2.mem ((c.tc : Thread Cert.BandRefIdeal.nD Cert.BandRefIdeal.τ).loc Cert.BandRefIdeal.main_arg6) = m ((c.tc : Thread Cert.BandRefIdeal.nD Cert.BandRefIdeal.τ).loc Cert.BandRefIdeal.main_arg6)
      ∧ r.2.mem ((c.tc : Thread Cert.BandRefIdeal.nD Cert.BandRefIdeal.τ).loc Cert.BandRefIdeal.main_arg7) = m ((c.tc : Thread Cert.BandRefIdeal.nD Cert.BandRefIdeal.τ).loc Cert.BandRefIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v21) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] [hPre_counted : Cert.Pre_counted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v86)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v86) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v130) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Band_BandIdeal : Prop :=
  True

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)
      ∧ m' ((c.tc : Thread Cert.BandRefIdeal.nD Cert.BandRefIdeal.τ).loc Cert.BandRefIdeal.main_arg4) = m ((c.tc : Thread Cert.BandIdeal.nD Cert.BandIdeal.τ).loc Cert.BandIdeal.main_arg4)
      ∧ m' ((c.tc : Thread Cert.BandRefIdeal.nD Cert.BandRefIdeal.τ).loc Cert.BandRefIdeal.main_arg5) = m ((c.tc : Thread Cert.BandIdeal.nD Cert.BandIdeal.τ).loc Cert.BandIdeal.main_arg5)
      ∧ m' ((c.tc : Thread Cert.BandRefIdeal.nD Cert.BandRefIdeal.τ).loc Cert.BandRefIdeal.main_arg6) = m ((c.tc : Thread Cert.BandIdeal.nD Cert.BandIdeal.τ).loc Cert.BandIdeal.main_arg6)
      ∧ m' ((c.tc : Thread Cert.BandRefIdeal.nD Cert.BandRefIdeal.τ).loc Cert.BandRefIdeal.main_arg7) = m ((c.tc : Thread Cert.BandIdeal.nD Cert.BandIdeal.τ).loc Cert.BandIdeal.main_arg7)) →
    ∃ (v0 : (c : Dev Cert.BandIdeal.nD) → Buf (Elt Ideal) ((c.tc : Thread Cert.BandIdeal.nD Cert.BandIdeal.τ).loc Cert.BandIdeal.main_v15_0)) (v1 : (c : Dev Cert.BandIdeal.nD) → Buf (Elt Ideal) ((c.tc : Thread Cert.BandIdeal.nD Cert.BandIdeal.τ).loc Cert.BandIdeal.main_v15_1)) (v2 : (c : Dev Cert.BandIdeal.nD) → Buf (Elt Ideal) ((c.tc : Thread Cert.BandIdeal.nD Cert.BandIdeal.τ).loc Cert.BandIdeal.main_v15_2)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v15_0) = v0 c
          ∧ r.2.mem ((c.tc : Thread Cert.BandIdeal.nD Cert.BandIdeal.τ).loc Cert.BandIdeal.main_v15_1) = v1 c
          ∧ r.2.mem ((c.tc : Thread Cert.BandIdeal.nD Cert.BandIdeal.τ).loc Cert.BandIdeal.main_v15_2) = v2 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
          ∧ r.2.mem ((c.tc : Thread Cert.BandIdeal.nD Cert.BandIdeal.τ).loc Cert.BandIdeal.main_arg4) = m ((c.tc : Thread Cert.BandIdeal.nD Cert.BandIdeal.τ).loc Cert.BandIdeal.main_arg4)
          ∧ r.2.mem ((c.tc : Thread Cert.BandIdeal.nD Cert.BandIdeal.τ).loc Cert.BandIdeal.main_arg5) = m ((c.tc : Thread Cert.BandIdeal.nD Cert.BandIdeal.τ).loc Cert.BandIdeal.main_arg5)
          ∧ r.2.mem ((c.tc : Thread Cert.BandIdeal.nD Cert.BandIdeal.τ).loc Cert.BandIdeal.main_arg6) = m ((c.tc : Thread Cert.BandIdeal.nD Cert.BandIdeal.τ).loc Cert.BandIdeal.main_arg6)
          ∧ r.2.mem ((c.tc : Thread Cert.BandIdeal.nD Cert.BandIdeal.τ).loc Cert.BandIdeal.main_arg7) = m ((c.tc : Thread Cert.BandIdeal.nD Cert.BandIdeal.τ).loc Cert.BandIdeal.main_arg7))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v60) = v0 c
          ∧ r.2.mem ((c.tc : Thread Cert.BandRefIdeal.nD Cert.BandRefIdeal.τ).loc Cert.BandRefIdeal.main_v61) = v1 c
          ∧ r.2.mem ((c.tc : Thread Cert.BandRefIdeal.nD Cert.BandRefIdeal.τ).loc Cert.BandRefIdeal.main_v63) = v2 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3)
          ∧ r.2.mem ((c.tc : Thread Cert.BandRefIdeal.nD Cert.BandRefIdeal.τ).loc Cert.BandRefIdeal.main_arg4) = m' ((c.tc : Thread Cert.BandRefIdeal.nD Cert.BandRefIdeal.τ).loc Cert.BandRefIdeal.main_arg4)
          ∧ r.2.mem ((c.tc : Thread Cert.BandRefIdeal.nD Cert.BandRefIdeal.τ).loc Cert.BandRefIdeal.main_arg5) = m' ((c.tc : Thread Cert.BandRefIdeal.nD Cert.BandRefIdeal.τ).loc Cert.BandRefIdeal.main_arg5)
          ∧ r.2.mem ((c.tc : Thread Cert.BandRefIdeal.nD Cert.BandRefIdeal.τ).loc Cert.BandRefIdeal.main_arg6) = m' ((c.tc : Thread Cert.BandRefIdeal.nD Cert.BandRefIdeal.τ).loc Cert.BandRefIdeal.main_arg6)
          ∧ r.2.mem ((c.tc : Thread Cert.BandRefIdeal.nD Cert.BandRefIdeal.τ).loc Cert.BandRefIdeal.main_arg7) = m' ((c.tc : Thread Cert.BandRefIdeal.nD Cert.BandRefIdeal.τ).loc Cert.BandRefIdeal.main_arg7))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseRefIdeal : Cert.DenseRefIdeal.Facts) (hExperts : Cert.Experts.Facts) (hExpertsIdeal : Cert.ExpertsIdeal.Facts) (hExpertsRefIdeal : Cert.ExpertsRefIdeal.Facts) (hBand : Cert.Band.Facts) (hBandIdeal : Cert.BandIdeal.Facts) (hBandRefIdeal : Cert.BandRefIdeal.Facts) (hPre_finite : Cert.Pre_finite.Facts) (hPre_counted : Cert.Pre_counted.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dense (hDense := hDense)
    ∧ quiescent_DenseIdeal (hDenseIdeal := hDenseIdeal)
    ∧ quiescent_DenseRefIdeal (hDenseRefIdeal := hDenseRefIdeal)
    ∧ quiescent_Experts (hExperts := hExperts) (hPre_counted := hPre_counted)
    ∧ quiescent_ExpertsIdeal (hExpertsIdeal := hExpertsIdeal) (hPre_counted := hPre_counted)
    ∧ quiescent_ExpertsRefIdeal (hExpertsRefIdeal := hExpertsRefIdeal)
    ∧ quiescent_ExpertsRefIdeal_pre_counted (hExpertsRefIdeal := hExpertsRefIdeal) (hPre_counted := hPre_counted)
    ∧ quiescent_Band (hBand := hBand)
    ∧ quiescent_BandIdeal (hBandIdeal := hBandIdeal)
    ∧ quiescent_BandRefIdeal (hBandRefIdeal := hBandRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dense_DenseIdeal
    ∧ algebraic_DenseIdeal_DenseRefIdeal (hDenseIdeal := hDenseIdeal) (hDenseRefIdeal := hDenseRefIdeal)
    ∧ preserves_Experts_ExpertsIdeal
    ∧ algebraic_ExpertsIdeal_ExpertsRefIdeal (hExpertsIdeal := hExpertsIdeal) (hExpertsRefIdeal := hExpertsRefIdeal) (hPre_counted := hPre_counted)
    ∧ preserves_Band_BandIdeal
    ∧ algebraic_BandIdeal_BandRefIdeal (hBandIdeal := hBandIdeal) (hBandRefIdeal := hBandRefIdeal)
-- ==== Pre_counted.lean ====
abbrev S131072x1024 : Shape := ⟨2, ![131072, 1024]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S131072x1024 .f32) (main_arg1 : IVec S8 32) (main_arg2 : FVec F S8x1024x3584 .f32) (main_arg3 : FVec F S8x1024x3584 .f32) (main_arg4 : FVec F S8x3584x1024 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 131072#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 131072#32
  let main_v7 : IVec S_ 1 := cmpi .eq main_v6 main_c_3
  let main_v8 : IVec S_ 1 := andi main_v5 main_v7
  main_v8
-- ==== Pre_finite.lean ====
abbrev S65536x2048 : Shape := ⟨2, ![65536, 2048]⟩
abbrev S65536x1024 : Shape := ⟨2, ![65536, 1024]⟩
abbrev S_ : Shape := ⟨0, ![]⟩

class Facts : Prop where
  bitsLt_bf16_f32 : FTy.bits .bf16 < FTy.bits .f32
  bcast_S_S65536x2048 : S_.BroadcastsInDim S65536x2048 (![] : Fin 0 → Fin S65536x2048.rank)
  reducesTo_S65536x2048_S_d0_1 : S65536x2048.ReducesTo [0, 1] S_
  h_S_ : 0 < S_.numel

variable [Facts]

def fn {F : FTy → Type} [FloatOps F] (main_arg0 : FVec F S65536x2048 .bf16) (main_arg1 : FVec F S65536x2048 .bf16) (main_arg2 : FVec F S65536x1024 .bf16) : IVec S_ 1 :=
  let main_v0 : FVec F S65536x2048 .f32 := (extf .f32 · bitsLt_bf16_f32) main_arg0
  let main_v1 : FVec F S65536x2048 .f32 := Host.absf main_v0
  let main_cst : FVec F S_ .f32 := constant S_ .f32 0x7F800000#32
  let main_v2 : FVec F S65536x2048 .f32 := broadcastInDim S65536x2048 ![] bcast_S_S65536x2048 main_cst
  let main_v3 : IVec S65536x2048 1 := cmpf .olt main_v1 main_v2
  let main_c : IVec S_ 1 := constantI S_ 1 1#1
  let main_v4 : IVec S_ 1 := (fun x v => Host.reduce IntOp.andi x v reducesTo_S65536x2048_S_d0_1 h_S_) main_v3 main_c
  let main_v5 : FVec F S65536x2048 .f32 := (extf .f32 · bitsLt_bf16_f32) main_arg1
  let main_v6 : FVec F S65536x2048 .f32 := Host.absf main_v5
  let main_cst_0 : FVec F S_ .f32 := constant S_ .f32 0x7F800000#32
  let main_v7 : FVec F S65536x2048 .f32 := broadcastInDim S65536x2048 ![] bcast_S_S65536x2048 main_cst_0
  let main_v8 : IVec S65536x2048 1 := cmpf .olt main_v6 main_v7
  let main_c_1 : IVec S_ 1 := constantI S_ 1 1#1
  let main_v9 : IVec S_ 1 := (fun x v => Host.reduce IntOp.andi x v reducesTo_S65536x2048_S_d0_1 h_S_) main_v8 main_c_1
  let main_v10 : IVec S_ 1 := andi main_v4 main_v9
  main_v10
-- ==== Kernel.lean ====
abbrev S65536x2048 : Shape := ⟨2, ![65536, 2048]⟩
abbrev S65536x1024 : Shape := ⟨2, ![65536, 1024]⟩
abbrev S32x2048x2048 : Shape := ⟨3, ![32, 2048, 2048]⟩
abbrev S32x2048x1024 : Shape := ⟨3, ![32, 2048, 1024]⟩
abbrev S1x2048x256 : Shape := ⟨3, ![1, 2048, 256]⟩
abbrev S1x2048x128 : Shape := ⟨3, ![1, 2048, 128]⟩
abbrev S128x2048 : Shape := ⟨2, ![128, 2048]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S1x256 : Shape := ⟨2, ![1, 256]⟩
abbrev S64x256 : Shape := ⟨2, ![64, 256]⟩
abbrev S256x64 : Shape := ⟨2, ![256, 64]⟩
abbrev S1x256x64 : Shape := ⟨3, ![1, 256, 64]⟩
abbrev S1x768x128 : Shape := ⟨3, ![1, 768, 128]⟩
abbrev S768x128 : Shape := ⟨2, ![768, 128]⟩
abbrev S768x256 : Shape := ⟨2, ![768, 256]⟩
abbrev S1x1024x128 : Shape := ⟨3, ![1, 1024, 128]⟩
abbrev S1024x128 : Shape := ⟨2, ![1024, 128]⟩
abbrev S1024x256 : Shape := ⟨2, ![1024, 256]⟩
abbrev S64x512 : Shape := ⟨2, ![64, 512]⟩
abbrev S1x1280x128 : Shape := ⟨3, ![1, 1280, 128]⟩
abbrev S1280x128 : Shape := ⟨2, ![1280, 128]⟩
abbrev S1280x256 : Shape := ⟨2, ![1280, 256]⟩
abbrev S64x768 : Shape := ⟨2, ![64, 768]⟩
abbrev S1x1536x128 : Shape := ⟨3, ![1, 1536, 128]⟩
abbrev S1536x128 : Shape := ⟨2, ![1536, 128]⟩
abbrev S1536x256 : Shape := ⟨2, ![1536, 256]⟩
abbrev S64x1024 : Shape := ⟨2, ![64, 1024]⟩
abbrev S1x1792x128 : Shape := ⟨3, ![1, 1792, 128]⟩
abbrev S1792x128 : Shape := ⟨2, ![1792, 128]⟩
abbrev S1792x256 : Shape := ⟨2, ![1792, 256]⟩
abbrev S64x1280 : Shape := ⟨2, ![64, 1280]⟩
abbrev S64x1536 : Shape := ⟨2, ![64, 1536]⟩
abbrev S64x1792 : Shape := ⟨2, ![64, 1792]⟩

abbrev nBuf : Space → Nat
  | .hbm => 8
  | .vmem => 9
  | .smem => 0
  | _ => 0

abbrev bufTy : (tb : Table) → Fin (tcTables nBuf tb) → BufTy
  | .hbm, ⟨0, _⟩ => ⟨S65536x2048, .bf16⟩
  | .hbm, ⟨1, _⟩ => ⟨S65536x2048, .bf16⟩
  | .hbm, ⟨2, _⟩ => ⟨S65536x1024, .bf16⟩
  | .hbm, ⟨3, _⟩ => ⟨S32x2048x2048, .bf16⟩
  | .hbm, ⟨4, _⟩ => ⟨S32x2048x2048, .bf16⟩
  | .hbm, ⟨5, _⟩ => ⟨S32x2048x1024, .bf16⟩
  | .hbm, ⟨6, _⟩ => ⟨S32x2048x1024, .bf16⟩
  | .hbm, ⟨7, _⟩ => ⟨S65536x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S128x2048, .bf16⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x2048 : Shape := ⟨2, ![65536, 2048]⟩
abbrev S65536x1024 : Shape := ⟨2, ![65536, 1024]⟩
abbrev S32x2048x16x128 : Shape := ⟨4, ![32, 2048, 16, 128]⟩
abbrev S32x2048x16x64 : Shape := ⟨4, ![32, 2048, 16, 64]⟩
abbrev S2048 : Shape := ⟨1, ![2048]⟩
abbrev S_ : Shape := ⟨0, ![]⟩
abbrev S32x16x2048x2048 : Shape := ⟨4, ![32, 16, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S32x16x2048 : Shape := ⟨3, ![32, 16, 2048]⟩
abbrev S32x16x2048x1 : Shape := ⟨4, ![32, 16, 2048, 1]⟩
abbrev S32x16x64x2048 : Shape := ⟨4, ![32, 16, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S65536x2048, .bf16⟩
  | .hbm, ⟨2, _⟩ => ⟨S65536x1024, .bf16⟩
  | .hbm, ⟨3, _⟩ => ⟨S65536x2048, .f32⟩
  | .hbm, ⟨4, _⟩ => ⟨S32x2048x16x128, .f32⟩
  | .hbm, ⟨5, _⟩ => ⟨S65536x2048, .f32⟩
  | .hbm, ⟨6, _⟩ => ⟨S32x2048x16x128, .f32⟩
  | .hbm, ⟨7, _⟩ => ⟨S65536x1024, .f32⟩
  | .hbm, ⟨8, _⟩ => ⟨S32x2048x16x64, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S32x16x2048x2048, .f32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S1x1x2048x2048, .i1⟩
  | .hbm, ⟨35, _⟩ => ⟨S_, .f32⟩
  | .hbm, ⟨36, _⟩ => ⟨S_, .f32⟩
  | .hbm, ⟨37, _⟩ => ⟨S32x16x2048x2048, .i1⟩
  | .hbm, ⟨38, _⟩ => ⟨S32x16x2048x2048, .f32⟩
  | .hbm, ⟨39, _⟩ => ⟨S32x16x2048x2048, .f32⟩
  | .hbm, ⟨40, _⟩ => ⟨S_, .f32⟩
  | .hbm, ⟨41, _⟩ => ⟨S32x16x2048, .f32⟩
  | .hbm, ⟨42, _⟩ => ⟨S32x16x2048x1, .f32⟩
  | .hbm, ⟨43, _⟩ => ⟨S32x16x2048x2048, .f32⟩
  | .hbm, ⟨44, _⟩ => ⟨S32x16x2048x2048, .f32⟩
  | .hbm, ⟨45, _⟩ => ⟨S_, .f32⟩
  | .hbm, ⟨46, _⟩ => ⟨S32x16x2048x2048, .f32⟩
  | .hbm, ⟨47, _⟩ => ⟨S32x16x2048x2048, .f32⟩
  | .hbm, ⟨48, _⟩ => ⟨S_, .f32⟩
  | .hbm, ⟨49, _⟩ => ⟨S32x16x2048, .f32⟩
  | .hbm, ⟨50, _⟩ => ⟨S32x16x2048x1, .f32⟩
  | .hbm, ⟨51, _⟩ => ⟨S32x16x2048x2048, .f32⟩
  | .hbm, ⟨52, _⟩ => ⟨S32x16x2048x2048, .f32⟩
  | .hbm, ⟨53, _⟩ => ⟨S32x16x64x2048, .f32⟩
  | .hbm, ⟨54, _⟩ => ⟨S32x2048x16x64, .f32⟩
  | .hbm, ⟨55, _⟩ => ⟨S65536x1024, .f32⟩
  | .hbm, ⟨56, _⟩ => ⟨S65536x1024, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Dense.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 11
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DenseRefIdeal.lean ====
abbrev S65536x1024 : Shape := ⟨2, ![65536, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x1024, .f32⟩
  | .hbm, ⟨39, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Experts.lean ====
abbrev S131072x1024 : Shape := ⟨2, ![131072, 1024]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S1 : Shape := ⟨1, ![1]⟩
abbrev S263 : Shape := ⟨1, ![263]⟩
abbrev S263x1 : Shape := ⟨2, ![263, 1]⟩
abbrev S1x8 : Shape := ⟨2, ![1, 8]⟩
abbrev S263x8 : Shape := ⟨2, ![263, 8]⟩
abbrev S262 : Shape := ⟨1, ![262]⟩
abbrev S512x1024 : Shape := ⟨2, ![512, 1024]⟩
abbrev S1x1024x3584 : Shape := ⟨3, ![1, 1024, 3584]⟩
abbrev S1x3584x1024 : Shape := ⟨3, ![1, 3584, 1024]⟩
abbrev S1024x3584 : Shape := ⟨2, ![1024, 3584]⟩
abbrev S512x3584 : Shape := ⟨2, ![512, 3584]⟩
abbrev S3584x1024 : Shape := ⟨2, ![3584, 1024]⟩

abbrev nBuf : Space → Nat
  | .hbm => 161
  | .vmem => 8
  | .smem => 6
  | _ => 0

abbrev hbmTy0_0 (i : Nat) : BufTy := match i % 128 with
  | 0 => ⟨S131072x1024, .f32⟩
  | 1 => ⟨S8, .i32⟩
  | 2 => ⟨S8x1024x3584, .f32⟩
  | 3 => ⟨S8x1024x3584, .f32⟩
  | 4 => ⟨S8x3584x1024, .f32⟩
  | 5 => ⟨S_, .i32⟩
  | 6 => ⟨S_, .i32⟩
  | 7 => ⟨S8, .i32⟩
  | 8 => ⟨S8, .i32⟩
  | 9 => ⟨S_, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S8, .i32⟩
  | 18 => ⟨S8, .i32⟩
  | 19 => ⟨S_, .i32⟩
  | 20 => ⟨S8, .i32⟩
  | 21 => ⟨S8, .i1⟩
  | 22 => ⟨S8, .i1⟩
  | 23 => ⟨S_, .i32⟩
  | 24 => ⟨S8, .i32⟩
  | 25 => ⟨S8, .i32⟩
  | 26 => ⟨S8, .i32⟩
  | 27 => ⟨S_, .i32⟩
  | 28 => ⟨S8, .i32⟩
  | 29 => ⟨S8, .i32⟩
  | 30 => ⟨S8, .i32⟩
  | 31 => ⟨S_, .i32⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i1⟩
  | 39 => ⟨S8, .i32⟩
  | 40 => ⟨S8, .i32⟩
  | 41 => ⟨S_, .i32⟩
  | 42 => ⟨S8, .i32⟩
  | 43 => ⟨S8, .i1⟩
  | 44 => ⟨S8, .i1⟩
  | 45 => ⟨S_, .i32⟩
  | 46 => ⟨S8, .i32⟩
  | 47 => ⟨S8, .i32⟩
  | 48 => ⟨S8, .i32⟩
  | 49 => ⟨S_, .i32⟩
  | 50 => ⟨S8, .i32⟩
  | 51 => ⟨S8, .i1⟩
  | 52 => ⟨S8, .i32⟩
  | 53 => ⟨S_, .i32⟩
  | 54 => ⟨S8, .i32⟩
  | 55 => ⟨S8, .i32⟩
  | 56 => ⟨S_, .i32⟩
  | 57 => ⟨S_, .i32⟩
  | 58 => ⟨S8, .i32⟩
  | 59 => ⟨S8, .i32⟩
  | 60 => ⟨S_, .i32⟩
  | 61 => ⟨S_, .i32⟩
  | 62 => ⟨S8, .i32⟩
  | 63 => ⟨S1, .i32⟩
  | 64 => ⟨S_, .i32⟩
  | 65 => ⟨S263, .i32⟩
  | 66 => ⟨S_, .i32⟩
  | 67 => ⟨S_, .i32⟩
  | 68 => ⟨S_, .i32⟩
  | 69 => ⟨S_, .i32⟩
  | 70 => ⟨S263, .i32⟩
  | 71 => ⟨S263, .i32⟩
  | 72 => ⟨S263x1, .i32⟩
  | 73 => ⟨S1x8, .i32⟩
  | 74 => ⟨S263x8, .i32⟩
  | 75 => ⟨S263x8, .i32⟩
  | 76 => ⟨S263x8, .i1⟩
  | 77 => ⟨S263x8, .i32⟩
  | 78 => ⟨S_, .i32⟩
  | 79 => ⟨S263, .i32⟩
  | 80 => ⟨S_, .i32⟩
  | 81 => ⟨S263, .i32⟩
  | 82 => ⟨S_, .i32⟩
  | 83 => ⟨S263, .i32⟩
  | 84 => ⟨S263, .i1⟩
  | 85 => ⟨S_, .i32⟩
  | 86 => ⟨S263, .i32⟩
  | 87 => ⟨S263, .i32⟩
  | 88 => ⟨S263, .i32⟩
  | 89 => ⟨S263x1, .i32⟩
  | 90 => ⟨S263, .i32⟩
  | 91 => ⟨S_, .i32⟩
  | 92 => ⟨S263, .i32⟩
  | 93 => ⟨S263, .i1⟩
  | 94 => ⟨S_, .i32⟩
  | 95 => ⟨S263, .i32⟩
  | 96 => ⟨S263, .i32⟩
  | 97 => ⟨S263, .i32⟩
  | 98 => ⟨S263x1, .i32⟩
  | 99 => ⟨S263, .i32⟩
  | 100 => ⟨S_, .i32⟩
  | 101 => ⟨S263, .i32⟩
  | 102 => ⟨S263, .i1⟩
  | 103 => ⟨S_, .i32⟩
  | 104 => ⟨S263, .i32⟩
  | 105 => ⟨S263, .i32⟩
  | 106 => ⟨S263, .i32⟩
  | 107 => ⟨S263x1, .i32⟩
  | 108 => ⟨S263, .i32⟩
  | 109 => ⟨S263, .i32⟩
  | 110 => ⟨S263, .i32⟩
  | 111 => ⟨S_, .i32⟩
  | 112 => ⟨S263, .i32⟩
  | 113 => ⟨S263, .i1⟩
  | 114 => ⟨S_, .i32⟩
  | 115 => ⟨S263, .i32⟩
  | 116 => ⟨S263, .i32⟩
  | 117 => ⟨S263, .i32⟩
  | 118 => ⟨S263x1, .i32⟩
  | 119 => ⟨S263, .i32⟩
  | 120 => ⟨S_, .i32⟩
  | 121 => ⟨S263, .i32⟩
  | 122 => ⟨S263, .i32⟩
  | 123 => ⟨S263, .i32⟩
  | 124 => ⟨S_, .i32⟩
  | 125 => ⟨S_, .i32⟩
  | 126 => ⟨S_, .i32⟩
  | 127 => ⟨S263, .i32⟩
  | _ => ⟨S131072x1024, .f32⟩

abbrev hbmTy0_1 (i : Nat) : BufTy := match i % 128 with
  | 0 => ⟨S263, .i32⟩
  | 1 => ⟨S_, .i32⟩
  | 2 => ⟨S263, .i32⟩
  | 3 => ⟨S_, .i32⟩
  | 4 => ⟨S263, .i32⟩
  | 5 => ⟨S263, .i1⟩
  | 6 => ⟨S_, .i32⟩
  | 7 => ⟨S263, .i32⟩
  | 8 => ⟨S263, .i32⟩
  | 9 => ⟨S263, .i32⟩
  | 10 => ⟨S263x1, .i32⟩
  | 11 => ⟨S263, .i32⟩
  | 12 => ⟨S_, .i32⟩
  | 13 => ⟨S263, .i32⟩
  | 14 => ⟨S263, .i32⟩
  | 15 => ⟨S263, .i32⟩
  | 16 => ⟨S_, .i32⟩
  | 17 => ⟨S_, .i32⟩
  | 18 => ⟨S_, .i32⟩
  | 19 => ⟨S263, .i32⟩
  | 20 => ⟨S263, .i32⟩
  | 21 => ⟨S_, .i32⟩
  | 22 => ⟨S263, .i32⟩
  | 23 => ⟨S_, .i32⟩
  | 24 => ⟨S1, .i32⟩
  | 25 => ⟨S262, .i32⟩
  | 26 => ⟨S262, .i32⟩
  | 27 => ⟨S262, .i1⟩
  | 28 => ⟨S262, .i32⟩
  | 29 => ⟨S8x1024x3584, .bf16⟩
  | 30 => ⟨S8x1024x3584, .bf16⟩
  | 31 => ⟨S8x3584x1024, .bf16⟩
  | 32 => ⟨S131072x1024, .f32⟩
  | _ => ⟨S131072x1024, .f32⟩

abbrev hbmTy (i : Nat) : BufTy := match i / 128 with
  | 0 => hbmTy0_0 i
  | 1 => hbmTy0_1 i
  | _ => ⟨S131072x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .smem, ⟨0, _⟩ => ⟨S263, .i32⟩
  | .local _ .smem, ⟨1, _⟩ => ⟨S263, .i32⟩
  | .local _ .smem, ⟨2, _⟩ => ⟨S263, .i32⟩
  | .local _ .smem, ⟨3, _⟩ => ⟨S263, .i32⟩
  | .local _ .smem, ⟨4, _⟩ => ⟨S263, .i32⟩
  | .local _ .smem, ⟨5, _⟩ => ⟨S1, .i32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_v12 : Ref sig .tc := ⟨.hbm, 59, rfl⟩
abbrev main_call4_call0_c : Ref sig .tc := ⟨.hbm, 60, rfl⟩
abbrev main_call4_call0_v0 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_5 : Ref sig .tc := ⟨.hbm, 66, rfl⟩
abbrev main_v17 : Ref sig .tc := ⟨.hbm, 67, rfl⟩
abbrev main_c_6 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_7 : Ref sig .tc := ⟨.hbm, 78, rfl⟩
abbrev main_v27 : Ref sig .tc := ⟨.hbm, 79, rfl⟩
abbrev main_c_8 : Ref sig .tc := ⟨.hbm, 80, rfl⟩
abbrev main_v28 : Ref sig .tc := ⟨.hbm, 81, rfl⟩
abbrev main_c_9 : Ref sig .tc := ⟨.hbm, 82, rfl⟩
abbrev main_v30 : Ref sig .tc := ⟨.hbm, 83, rfl⟩
abbrev main_v31 : Ref sig .tc := ⟨.hbm, 84, rfl⟩
abbrev main_c_10 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_11 : Ref sig .tc := ⟨.hbm, 91, rfl⟩
abbrev main_v37 : Ref sig .tc := ⟨.hbm, 92, rfl⟩
abbrev main_v38 : Ref sig .tc := ⟨.hbm, 93, rfl⟩
abbrev main_c_12 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_13 : Ref sig .tc := ⟨.hbm, 100, rfl⟩
abbrev main_v44 : Ref sig .tc := ⟨.hbm, 101, rfl⟩
abbrev main_v45 : Ref sig .tc := ⟨.hbm, 102, rfl⟩
abbrev main_c_14 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_c_15 : Ref sig .tc := ⟨.hbm, 111, rfl⟩
abbrev main_v54 : Ref sig .tc := ⟨.hbm, 112, rfl⟩
abbrev main_v55 : Ref sig .tc := ⟨.hbm, 113, rfl⟩
abbrev main_c_16 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_17 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_18 : Ref sig .tc := ⟨.hbm, 124, rfl⟩
abbrev main_c_19 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_c_20 : Ref sig .tc := ⟨.hbm, 131, rfl⟩
abbrev main_v65 : Ref sig .tc := ⟨.hbm, 132, rfl⟩
abbrev main_v66 : Ref sig .tc := ⟨.hbm, 133, rfl⟩
abbrev main_c_21 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_c_22 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_c_23 : Ref sig .tc := ⟨.hbm, 144, rfl⟩
abbrev main_c_24 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_c_25 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v29 : Ref sig .tc := ⟨.smem, 0, rfl⟩
abbrev main_v53 : Ref sig .tc := ⟨.smem, 1, rfl⟩
abbrev main_v64 : Ref sig .tc := ⟨.smem, 2, rfl⟩
abbrev main_v75 : Ref sig .tc := ⟨.smem, 3, rfl⟩
abbrev main_v81 : Ref sig .tc := ⟨.smem, 4, rfl⟩
abbrev main_v82 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![263, 1], ![false, false]⟩

abbrev pre0 : Pipeline.Prefetch sig := ⟨6, ![main_v29.idx, main_v53.idx, main_v64.idx, main_v75.idx, main_v81.idx, main_v82.idx], fun | 0 => main_v29.names | 1 => main_v53.names | 2 => main_v64.names | 3 => main_v75.names | 4 => main_v81.names | 5 => main_v82.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v23 : Index := Scalar.indexCast arg0
  ![v23.toNat]
def k0_off3 (i : grid0.Coords) : Fin 1 → Nat :=
  let arg0 : BitVec 32 := BitVec.ofNat 32 (i 0).val
  let v29 : Index := Scalar.indexCast arg0
  ![v29.toNat]
def k0_off4 (i : grid0.Coords) : Fin 1 → Nat :=
  let arg0 : BitVec 32 := BitVec.ofNat 32 (i 0).val
  let v36 : Index := Scalar.indexCast arg0
  ![v36.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v24 : BitVec 32) : BitVec 1 :=
  let arg1 : BitVec 32 := BitVec.ofNat 32 (i 1).val
  let c0_i32_15 : BitVec 32 := 0#32
  let v22 : BitVec 1 := Scalar.cmpi .eq arg1 c0_i32_15
  let c1_i32 : BitVec 32 := 1#32
  let v25 : BitVec 1 := Scalar.cmpi .eq v24 c1_i32
  let v26 : BitVec 1 := Scalar.andi v22 v25
  let v27 : BitVec 32 := Scalar.extui v26
  let c0_i32_16 : BitVec 32 := 0#32
  let v28 : BitVec 1 := Scalar.cmpi .ne v27 c0_i32_16
  v28

def k0_cond3 (i : grid0.Coords) (v30 : BitVec 32) : BitVec 1 :=
  let arg1 : BitVec 32 := BitVec.ofNat 32 (i 1).val
  let c0_i32_15 : BitVec 32 := 0#32
  let v22 : BitVec 1 := Scalar.cmpi .eq arg1 c0_i32_15
  let c0_i32_17 : BitVec 32 := 0#32
  let v31 : BitVec 1 := Scalar.cmpi .eq v30 c0_i32_17
  let v32 : BitVec 1 := Scalar.andi v22 v31
  let v33 : BitVec 32 := Scalar.extui v32
  let c0_i32_18 : BitVec 32 := 0#32
  let v34 : BitVec 1 := Scalar.cmpi .ne v33 c0_i32_18
  v34

def cc0_transform_0 (k0_off1_inb : ∀ i : grid0.Coords, ∀ a, (k0_off1 i) a + S1.size a ≤ S263.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S263) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S263.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S263) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S263.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S263) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S263.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S263) ![v0.toNat] S1.size (k0_off1_inb i)) numel1_S1
  let c0_i32 : BitVec 32 := 0#32
  let c0_i32_0 : BitVec 32 := 0#32
  ![v1.toNat, arg1.toNat, c0_i32.toNat]

def cc0_transform_4 (k0_off1_inb : ∀ i : grid0.Coords, ∀ a, (k0_off1 i) a + S1.size a ≤ S263.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S263) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S131072x1024 : Shape := ⟨2, ![131072, 1024]⟩
abbrev S8 : Shape := ⟨1, ![8]⟩
abbrev S8x1024x3584 : Shape := ⟨3, ![8, 1024, 3584]⟩
abbrev S8x3584x1024 : Shape := ⟨3, ![8, 3584, 1024]⟩
abbrev S131072 : Shape := ⟨1, ![131072]⟩
abbrev S131072x1 : Shape := ⟨2, ![131072, 1]⟩
abbrev S_ : Shape := ⟨0, ![]⟩
abbrev S1x8 : Shape := ⟨2, ![1, 8]⟩
abbrev S131072x8 : Shape := ⟨2, ![131072, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S131072x3584 : Shape := ⟨2, ![131072, 3584]⟩

abbrev nBuf : Space → Nat
  | .hbm => 209
  | .vmem => 0
  | .smem => 0
  | _ => 0

abbrev hbmTy0_0 (i : Nat) : BufTy := match i % 128 with
  | 0 => ⟨S131072x1024, .f32⟩
  | 1 => ⟨S8, .i32⟩
  | 2 => ⟨S8x1024x3584, .f32⟩
  | 3 => ⟨S8x1024x3584, .f32⟩
  | 4 => ⟨S8x3584x1024, .f32⟩
  | 5 => ⟨S131072, .i32⟩
  | 6 => ⟨S131072x1, .i32⟩
  | 7 => ⟨S_, .i32⟩
  | 8 => ⟨S_, .i32⟩
  | 9 => ⟨S8, .i32⟩
  | 10 => ⟨S1x8, .i32⟩
  | 11 => ⟨S131072x8, .i32⟩
  | 12 => ⟨S131072x8, .i32⟩
  | 13 => ⟨S131072x8, .i1⟩
  | 14 => ⟨S131072x8, .i32⟩
  | 15 => ⟨S_, .i32⟩
  | 16 => ⟨S131072, .i32⟩
  | 17 => ⟨S131072x1, .i32⟩
  | 18 => ⟨S1x8, .i32⟩
  | 19 => ⟨S131072x8, .i32⟩
  | 20 => ⟨S131072x8, .i32⟩
  | 21 => ⟨S131072x8, .i1⟩
  | 22 => ⟨S131072x8, .f32⟩
  | 23 => ⟨S_, .f32⟩
  | 24 => ⟨S131072x1024, .f32⟩
  | 25 => ⟨S131072x1, .f32⟩
  | 26 => ⟨S1x1024x3584, .f32⟩
  | 27 => ⟨S1024x3584, .f32⟩
  | 28 => ⟨S1x1024x3584, .f32⟩
  | 29 => ⟨S1024x3584, .f32⟩
  | 30 => ⟨S1x3584x1024, .f32⟩
  | 31 => ⟨S3584x1024, .f32⟩
  | 32 => ⟨S131072x3584, .f32⟩
  | 33 => ⟨S131072x3584, .f32⟩
  | 34 => ⟨S131072x3584, .f32⟩
  | 35 => ⟨S_, .f32⟩
  | 36 => ⟨S131072x3584, .f32⟩
  | 37 => ⟨S131072x3584, .f32⟩
  | 38 => ⟨S_, .f32⟩
  | 39 => ⟨S131072x3584, .f32⟩
  | 40 => ⟨S131072x3584, .f32⟩
  | 41 => ⟨S131072x3584, .f32⟩
  | 42 => ⟨S131072x3584, .f32⟩
  | 43 => ⟨S131072x3584, .f32⟩
  | 44 => ⟨S131072x1024, .f32⟩
  | 45 => ⟨S131072x1024, .f32⟩
  | 46 => ⟨S131072x1024, .f32⟩
  | 47 => ⟨S131072x1024, .f32⟩
  | 48 => ⟨S131072x1, .f32⟩
  | 49 => ⟨S1x1024x3584, .f32⟩
  | 50 => ⟨S1024x3584, .f32⟩
  | 51 => ⟨S1x1024x3584, .f32⟩
  | 52 => ⟨S1024x3584, .f32⟩
  | 53 => ⟨S1x3584x1024, .f32⟩
  | 54 => ⟨S3584x1024, .f32⟩
  | 55 => ⟨S131072x3584, .f32⟩
  | 56 => ⟨S131072x3584, .f32⟩
  | 57 => ⟨S131072x3584, .f32⟩
  | 58 => ⟨S_, .f32⟩
  | 59 => ⟨S131072x3584, .f32⟩
  | 60 => ⟨S131072x3584, .f32⟩
  | 61 => ⟨S_, .f32⟩
  | 62 => ⟨S131072x3584, .f32⟩
  | 63 => ⟨S131072x3584, .f32⟩
  | 64 => ⟨S131072x3584, .f32⟩
  | 65 => ⟨S131072x3584, .f32⟩
  | 66 => ⟨S131072x3584, .f32⟩
  | 67 => ⟨S131072x1024, .f32⟩
  | 68 => ⟨S131072x1024, .f32⟩
  | 69 => ⟨S131072x1024, .f32⟩
  | 70 => ⟨S131072x1024, .f32⟩
  | 71 => ⟨S131072x1, .f32⟩
  | 72 => ⟨S1x1024x3584, .f32⟩
  | 73 => ⟨S1024x3584, .f32⟩
  | 74 => ⟨S1x1024x3584, .f32⟩
  | 75 => ⟨S1024x3584, .f32⟩
  | 76 => ⟨S1x3584x1024, .f32⟩
  | 77 => ⟨S3584x1024, .f32⟩
  | 78 => ⟨S131072x3584, .f32⟩
  | 79 => ⟨S131072x3584, .f32⟩
  | 80 => ⟨S131072x3584, .f32⟩
  | 81 => ⟨S_, .f32⟩
  | 82 => ⟨S131072x3584, .f32⟩
  | 83 => ⟨S131072x3584, .f32⟩
  | 84 => ⟨S_, .f32⟩
  | 85 => ⟨S131072x3584, .f32⟩
  | 86 => ⟨S131072x3584, .f32⟩
  | 87 => ⟨S131072x3584, .f32⟩
  | 88 => ⟨S131072x3584, .f32⟩
  | 89 => ⟨S131072x3584, .f32⟩
  | 90 => ⟨S131072x1024, .f32⟩
  | 91 => ⟨S131072x1024, .f32⟩
  | 92 => ⟨S131072x1024, .f32⟩
  | 93 => ⟨S131072x1024, .f32⟩
  | 94 => ⟨S131072x1, .f32⟩
  | 95 => ⟨S1x1024x3584, .f32⟩
  | 96 => ⟨S1024x3584, .f32⟩
  | 97 => ⟨S1x1024x3584, .f32⟩
  | 98 => ⟨S1024x3584, .f32⟩
  | 99 => ⟨S1x3584x1024, .f32⟩
  | 100 => ⟨S3584x1024, .f32⟩
  | 101 => ⟨S131072x3584, .f32⟩
  | 102 => ⟨S131072x3584, .f32⟩
  | 103 => ⟨S131072x3584, .f32⟩
  | 104 => ⟨S_, .f32⟩
  | 105 => ⟨S131072x3584, .f32⟩
  | 106 => ⟨S131072x3584, .f32⟩
  | 107 => ⟨S_, .f32⟩
  | 108 => ⟨S131072x3584, .f32⟩
  | 109 => ⟨S131072x3584, .f32⟩
  | 110 => ⟨S131072x3584, .f32⟩
  | 111 => ⟨S131072x3584, .f32⟩
  | 112 => ⟨S131072x3584, .f32⟩
  | 113 => ⟨S131072x1024, .f32⟩
  | 114 => ⟨S131072x1024, .f32⟩
  | 115 => ⟨S131072x1024, .f32⟩
  | 116 => ⟨S131072x1024, .f32⟩
  | 117 => ⟨S131072x1, .f32⟩
  | 118 => ⟨S1x1024x3584, .f32⟩
  | 119 => ⟨S1024x3584, .f32⟩
  | 120 => ⟨S1x1024x3584, .f32⟩
  | 121 => ⟨S1024x3584, .f32⟩
  | 122 => ⟨S1x3584x1024, .f32⟩
  | 123 => ⟨S3584x1024, .f32⟩
  | 124 => ⟨S131072x3584, .f32⟩
  | 125 => ⟨S131072x3584, .f32⟩
  | 126 => ⟨S131072x3584, .f32⟩
  | 127 => ⟨S_, .f32⟩
  | _ => ⟨S131072x1024, .f32⟩

abbrev hbmTy0_1 (i : Nat) : BufTy := match i % 128 with
  | 0 => ⟨S131072x3584, .f32⟩
  | 1 => ⟨S131072x3584, .f32⟩
  | 2 => ⟨S_, .f32⟩
  | 3 => ⟨S131072x3584, .f32⟩
  | 4 => ⟨S131072x3584, .f32⟩
  | 5 => ⟨S131072x3584, .f32⟩
  | 6 => ⟨S131072x3584, .f32⟩
  | 7 => ⟨S131072x3584, .f32⟩
  | 8 => ⟨S131072x1024, .f32⟩
  | 9 => ⟨S131072x1024, .f32⟩
  | 10 => ⟨S131072x1024, .f32⟩
  | 11 => ⟨S131072x1024, .f32⟩
  | 12 => ⟨S131072x1, .f32⟩
  | 13 => ⟨S1x1024x3584, .f32⟩
  | 14 => ⟨S1024x3584, .f32⟩
  | 15 => ⟨S1x1024x3584, .f32⟩
  | 16 => ⟨S1024x3584, .f32⟩
  | 17 => ⟨S1x3584x1024, .f32⟩
  | 18 => ⟨S3584x1024, .f32⟩
  | 19 => ⟨S131072x3584, .f32⟩
  | 20 => ⟨S131072x3584, .f32⟩
  | 21 => ⟨S131072x3584, .f32⟩
  | 22 => ⟨S_, .f32⟩
  | 23 => ⟨S131072x3584, .f32⟩
  | 24 => ⟨S131072x3584, .f32⟩
  | 25 => ⟨S_, .f32⟩
  | 26 => ⟨S131072x3584, .f32⟩
  | 27 => ⟨S131072x3584, .f32⟩
  | 28 => ⟨S131072x3584, .f32⟩
  | 29 => ⟨S131072x3584, .f32⟩
  | 30 => ⟨S131072x3584, .f32⟩
  | 31 => ⟨S131072x1024, .f32⟩
  | 32 => ⟨S131072x1024, .f32⟩
  | 33 => ⟨S131072x1024, .f32⟩
  | 34 => ⟨S131072x1024, .f32⟩
  | 35 => ⟨S131072x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S131072x3584, .f32⟩
  | 43 => ⟨S131072x3584, .f32⟩
  | 44 => ⟨S131072x3584, .f32⟩
  | 45 => ⟨S_, .f32⟩
  | 46 => ⟨S131072x3584, .f32⟩
  | 47 => ⟨S131072x3584, .f32⟩
  | 48 => ⟨S_, .f32⟩
  | 49 => ⟨S131072x3584, .f32⟩
  | 50 => ⟨S131072x3584, .f32⟩
  | 51 => ⟨S131072x3584, .f32⟩
  | 52 => ⟨S131072x3584, .f32⟩
  | 53 => ⟨S131072x3584, .f32⟩
  | 54 => ⟨S131072x1024, .f32⟩
  | 55 => ⟨S131072x1024, .f32⟩
  | 56 => ⟨S131072x1024, .f32⟩
  | 57 => ⟨S131072x1024, .f32⟩
  | 58 => ⟨S131072x1, .f32⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S131072x3584, .f32⟩
  | 66 => ⟨S131072x3584, .f32⟩
  | 67 => ⟨S131072x3584, .f32⟩
  | 68 => ⟨S_, .f32⟩
  | 69 => ⟨S131072x3584, .f32⟩
  | 70 => ⟨S131072x3584, .f32⟩
  | 71 => ⟨S_, .f32⟩
  | 72 => ⟨S131072x3584, .f32⟩
  | 73 => ⟨S131072x3584, .f32⟩
  | 74 => ⟨S131072x3584, .f32⟩
  | 75 => ⟨S131072x3584, .f32⟩
  | 76 => ⟨S131072x3584, .f32⟩
  | 77 => ⟨S131072x1024, .f32⟩
  | 78 => ⟨S131072x1024, .f32⟩
  | 79 => ⟨S131072x1024, .f32⟩
  | 80 => ⟨S131072x1024, .f32⟩
  | _ => ⟨S131072x1024, .f32⟩

abbrev hbmTy (i : Nat) : BufTy := match i / 128 with
  | 0 => hbmTy0_0 i
  | 1 => hbmTy0_1 i
  | _ => ⟨S131072x1024, .f32⟩

abbrev bufTy : (tb : Table) → Fin (tcTables nBuf tb) → BufTy
  | .hbm, ⟨i, _⟩ => hbmTy i
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call4_v0 : Ref sig .tc := ⟨.hbm, 79, rfl⟩
abbrev main_call4_v1 : Ref sig .tc := ⟨.hbm, 80, rfl⟩
abbrev main_call4_cst : Ref sig .tc := ⟨.hbm, 81, rfl⟩
abbrev main_call4_v2 : Ref sig .tc := ⟨.hbm, 82, rfl⟩
abbrev main_call4_v3 : Ref sig .tc := ⟨.hbm, 83, rfl⟩
abbrev main_call4_cst_0 : Ref sig .tc := ⟨.hbm, 84, rfl⟩
abbrev main_call4_v4 : Ref sig .tc := ⟨.hbm, 85, rfl⟩
abbrev main_call4_v5 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call5_v0 : Ref sig .tc := ⟨.hbm, 102, rfl⟩
abbrev main_call5_v1 : Ref sig .tc := ⟨.hbm, 103, rfl⟩
abbrev main_call5_cst : Ref sig .tc := ⟨.hbm, 104, rfl⟩
abbrev main_call5_v2 : Ref sig .tc := ⟨.hbm, 105, rfl⟩
abbrev main_call5_v3 : Ref sig .tc := ⟨.hbm, 106, rfl⟩
abbrev main_call5_cst_0 : Ref sig .tc := ⟨.hbm, 107, rfl⟩
abbrev main_call5_v4 : Ref sig .tc := ⟨.hbm, 108, rfl⟩
abbrev main_call5_v5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call6_v0 : Ref sig .tc := ⟨.hbm, 125, rfl⟩
abbrev main_call6_v1 : Ref sig .tc := ⟨.hbm, 126, rfl⟩
abbrev main_call6_cst : Ref sig .tc := ⟨.hbm, 127, rfl⟩
abbrev main_call6_v2 : Ref sig .tc := ⟨.hbm, 128, rfl⟩
abbrev main_call6_v3 : Ref sig .tc := ⟨.hbm, 129, rfl⟩
abbrev main_call6_cst_0 : Ref sig .tc := ⟨.hbm, 130, rfl⟩
abbrev main_call6_v4 : Ref sig .tc := ⟨.hbm, 131, rfl⟩
abbrev main_call6_v5 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_call7_v0 : Ref sig .tc := ⟨.hbm, 148, rfl⟩
abbrev main_call7_v1 : Ref sig .tc := ⟨.hbm, 149, rfl⟩
abbrev main_call7_cst : Ref sig .tc := ⟨.hbm, 150, rfl⟩
abbrev main_call7_v2 : Ref sig .tc := ⟨.hbm, 151, rfl⟩
abbrev main_call7_v3 : Ref sig .tc := ⟨.hbm, 152, rfl⟩
abbrev main_call7_cst_0 : Ref sig .tc := ⟨.hbm, 153, rfl⟩
abbrev main_call7_v4 : Ref sig .tc := ⟨.hbm, 154, rfl⟩
abbrev main_call7_v5 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_call9_v0 : Ref sig .tc := ⟨.hbm, 194, rfl⟩
abbrev main_call9_v1 : Ref sig .tc := ⟨.hbm, 195, rfl⟩
abbrev main_call9_cst : Ref sig .tc := ⟨.hbm, 196, rfl⟩
abbrev main_call9_v2 : Ref sig .tc := ⟨.hbm, 197, rfl⟩
abbrev main_call9_v3 : Ref sig .tc := ⟨.hbm, 198, rfl⟩
abbrev main_call9_cst_0 : Ref sig .tc := ⟨.hbm, 199, rfl⟩
abbrev main_call9_v4 : Ref sig .tc := ⟨.hbm, 200, rfl⟩
abbrev main_call9_v5 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩

abbrev nD : Nat := 1
abbrev τ : Topo := Topo.v7x

variable {F : FTy → Type} [FloatOps F]
-- ==== Band.lean ====
abbrev S65536x1024 : Shape := ⟨2, ![65536, 1024]⟩
abbrev S1024 : Shape := ⟨1, ![1024]⟩
abbrev S1024x1024 : Shape := ⟨2, ![1024, 1024]⟩
abbrev S64 : Shape := ⟨1, ![64]⟩
abbrev S256x256 : Shape := ⟨2, ![256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 28
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S64, .f32⟩
  | .hbm, ⟨7, _⟩ => ⟨S64, .f32⟩
  | .hbm, ⟨8, _⟩ => ⟨S256x256, .bf16⟩
  | .hbm, ⟨9, _⟩ => ⟨S1x64, .f32⟩
  | .hbm, ⟨10, _⟩ => ⟨S4x64, .f32⟩
  | .hbm, ⟨11, _⟩ => ⟨S256, .f32⟩
  | .hbm, ⟨12, _⟩ => ⟨S1x256, .f32⟩
  | .hbm, ⟨13, _⟩ => ⟨S1x64, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S65536x1024, .bf16⟩
  | .hbm, ⟨26, _⟩ => ⟨S65536x1024, .bf16⟩
  | .hbm, ⟨27, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x256, .f32⟩
  | .local _ .vmem, ⟨8, _⟩ => ⟨S1x256, .f32⟩
  | .local _ .vmem, ⟨9, _⟩ => ⟨S256x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BandRefIdeal.lean ====
abbrev S65536x1024 : Shape := ⟨2, ![65536, 1024]⟩
abbrev S1024 : Shape := ⟨1, ![1024]⟩
abbrev S1024x1024 : Shape := ⟨2, ![1024, 1024]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x16x64 : Shape := ⟨3, ![65536, 16, 64]⟩
abbrev S65536x16 : Shape := ⟨2, ![65536, 16]⟩
abbrev S65536x16x1 : Shape := ⟨3, ![65536, 16, 1]⟩
abbrev S1x1x64 : Shape := ⟨3, ![1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S64, .f32⟩
  | .hbm, ⟨7, _⟩ => ⟨S64, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x16x64, .f32⟩
  | .hbm, ⟨26, _⟩ => ⟨S65536x16x64, .f32⟩
  | .hbm, ⟨27, _⟩ => ⟨S_, .f32⟩
  | .hbm, ⟨28, _⟩ => ⟨S65536x16, .f32⟩
  | .hbm, ⟨29, _⟩ => ⟨S65536x16x1, .f32⟩
  | .hbm, ⟨30, _⟩ => ⟨S_, .f32⟩
  | .hbm, ⟨31, _⟩ => ⟨S65536x16x1, .f32⟩
  | .hbm, ⟨32, _⟩ => ⟨S65536x16x1, .f32⟩
  | .hbm, ⟨33, _⟩ => ⟨S_, .f32⟩
  | .hbm, ⟨34, _⟩ => ⟨S65536x16x1, .f32⟩
  | .hbm, ⟨35, _⟩ => ⟨S65536x16x1, .f32⟩
  | .hbm, ⟨36, _⟩ => ⟨S65536x16x1, .f32⟩
  | .hbm, ⟨37, _⟩ => ⟨S65536x16x64, .f32⟩
  | .hbm, ⟨38, _⟩ => ⟨S65536x16x64, .f32⟩
  | .hbm, ⟨39, _⟩ => ⟨S1x1x64, .f32⟩
  | .hbm, ⟨40, _⟩ => ⟨S65536x16x64, .f32⟩
  | .hbm, ⟨41, _⟩ => ⟨S65536x16x64, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S1x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x16x64, .f32⟩
  | .hbm, ⟨61, _⟩ => ⟨S65536x16x64, .f32⟩
  | .hbm, ⟨62, _⟩ => ⟨S_, .f32⟩
  | .hbm, ⟨63, _⟩ => ⟨S65536x16, .f32⟩
  | .hbm, ⟨64, _⟩ => ⟨S65536x16x1, .f32⟩
  | .hbm, ⟨65, _⟩ => ⟨S_, .f32⟩
  | .hbm, ⟨66, _⟩ => ⟨S65536x16x1, .f32⟩
  | .hbm, ⟨67, _⟩ => ⟨S65536x16x1, .f32⟩
  | .hbm, ⟨68, _⟩ => ⟨S_, .f32⟩
  | .hbm, ⟨69, _⟩ => ⟨S65536x16x1, .f32⟩
  | .hbm, ⟨70, _⟩ => ⟨S65536x16x1, .f32⟩
  | .hbm, ⟨71, _⟩ => ⟨S65536x16x1, .f32⟩
  | .hbm, ⟨72, _⟩ => ⟨S65536x16x64, .f32⟩
  | .hbm, ⟨73, _⟩ => ⟨S65536x16x64, .f32⟩
  | .hbm, ⟨74, _⟩ => ⟨S1x1x64, .f32⟩
  | .hbm, ⟨75, _⟩ => ⟨S65536x16x64, .f32⟩
  | .hbm, ⟨76, _⟩ => ⟨S65536x16x64, .f32⟩
  | .hbm, ⟨77, _⟩ => ⟨S_, .f32⟩
  | .hbm, ⟨78, _⟩ => ⟨S65536x16x64, .f32⟩
  | .hbm, ⟨79, _⟩ => ⟨S65536x16x64, .f32⟩
  | .hbm, ⟨80, _⟩ => ⟨S65536x1024, .f32⟩
  | .hbm, ⟨81, _⟩ => ⟨S65536x1024, .bf16⟩
  | .hbm, ⟨82, _⟩ => ⟨S65536x1024, .bf16⟩
  | .hbm, ⟨83, _⟩ => ⟨S65536x1024, .f32⟩
  | .hbm, ⟨84, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Proof.Softmax.lean ====
module
public import Idealize.ShloMosaic.Lib.Pipeline.ValueKit
public import Idealize.ShloMosaic.Lib.Pointwise

/-! The arithmetic of one attention row, over the extended reals: a row of scores, some of them minus infinity, and the
    weighted mean of the values under the powers of two of the scores. Nothing here mentions a program. -/

@[expose] public section
noncomputable section

open Idealize.ShloMosaic
open scoped BigOperators
namespace Cert.Proof.Softmax

/-- The largest of a row of scores. -/
def top {n : ℕ} (s : Fin n → EReal) : EReal := Finset.univ.fold max ⊥ s

/-- The weighted mean of `v` under the weights `2 ^ (s j - max s)`: the weighted sum times the reciprocal of the weights' sum. -/
def mean {n : ℕ} (s v : Fin n → EReal) : EReal :=
  (∑ j, v j * Ideal.exp2 (s j - top s)) * Ideal.div 1 (∑ j, Ideal.exp2 (s j - top s))

/-- The largest score is the supremum of the row. -/
theorem top_eq_sup {n : ℕ} (s : Fin n → EReal) : top s = Finset.univ.sup s := rfl

/-- A sum over `o + 256 + r` terms, the last `r` of them zero, is the sum over the middle 256 and the first `o`. -/
theorem sum_tile {N : ℕ} (o r : ℕ) (hN : N = o + 256 + r) (f : Fin N → EReal) (hf : ∀ j : Fin N, o + 256 ≤ j.val → f j = 0) :
    ∑ j, f j = ∑ a : Fin 256, f ⟨o + a.val, by omega⟩ + ∑ a : Fin o, f ⟨a.val, by omega⟩ := by
  subst hN
  rw [Fin.sum_univ_add, Fin.sum_univ_add]
  rw [Finset.sum_eq_zero (s := Finset.univ (α := Fin r)) fun i _ => hf _ (by simp), add_zero, add_comm]
  rfl

/-- The largest score of a row whose last `r` entries are minus infinity is the larger of the middle's and the start's. -/
theorem top_tile {N : ℕ} (o r : ℕ) (hN : N = o + 256 + r) (s : Fin N → EReal) (hs : ∀ j : Fin N, o + 256 ≤ j.val → s j = ⊥)
    (sd : Fin 256 → EReal) (so : Fin o → EReal) (hd : ∀ a : Fin 256, sd a = s ⟨o + a.val, by omega⟩)
    (ho : ∀ a : Fin o, so a = s ⟨a.val, by omega⟩) : max (top sd) (top so) = top s := by
  simp only [top_eq_sup]
  apply le_antisymm
  · refine max_le (Finset.sup_le fun a _ => ?_) (Finset.sup_le fun a _ => ?_)
    · rw [hd]; exact Finset.le_sup (f := s) (Finset.mem_univ _)
    · rw [ho]; exact Finset.le_sup (f := s) (Finset.mem_univ _)
  · refine Finset.sup_le fun j _ => ?_
    by_cases h1 : j.val < o
    · refine le_max_of_le_right ?_
      have := Finset.le_sup (f := so) (Finset.mem_univ ⟨j.val, h1⟩)
      rwa [ho] at this
    · by_cases h2 : j.val < o + 256
      · refine le_max_of_le_left ?_
        have := Finset.le_sup (f := sd) (Finset.mem_univ ⟨j.val - o, by omega⟩)
        rw [hd] at this
        convert this using 2
        exact Fin.ext (by simp; omega)
      · rw [hs j (by omega)]; exact bot_le

/-- Two to the power of minus infinity less anything is zero. -/
theorem exp2_bot_sub (x : EReal) : Ideal.exp2 (⊥ - x) = 0 := by
  rw [EReal.bot_sub]; exact Ideal.exp2_bot

/-- The weighted mean of a row whose last entries are masked, from its middle 256 entries and its first `o`. -/
theorem mean_tile {N : ℕ} (o : ℕ) (hN : o + 256 ≤ N) (s v : Fin N → EReal) (hs : ∀ j : Fin N, o + 256 ≤ j.val → s j = ⊥)
    (sd vd : Fin 256 → EReal) (so vo : Fin o → EReal) (hd : ∀ a : Fin 256, sd a = s ⟨o + a.val, by omega⟩)
    (ho : ∀ a : Fin o, so a = s ⟨a.val, by omega⟩) (hvd : ∀ a : Fin 256, vd a = v ⟨o + a.val, by omega⟩)
    (hvo : ∀ a : Fin o, vo a = v ⟨a.val, by omega⟩) :
    (∑ a, vd a * Ideal.exp2 (sd a - max (top sd) (top so)) + ∑ a, vo a * Ideal.exp2 (so a - max (top sd) (top so))) *
      Ideal.div 1 (∑ a, Ideal.exp2 (sd a - max (top sd) (top so)) + ∑ a, Ideal.exp2 (so a - max (top sd) (top so))) =
    mean s v := by
  obtain ⟨r, rfl⟩ := Nat.exists_eq_add_of_le hN
  rw [top_tile o r rfl s hs sd so hd ho, mean,
    sum_tile o r rfl (fun j => v j * Ideal.exp2 (s j - top s)) (fun j hj => by simp only [hs j hj, exp2_bot_sub, mul_zero]),
    sum_tile o r rfl (fun j => Ideal.exp2 (s j - top s)) (fun j hj => by simp only [hs j hj, exp2_bot_sub])]
  simp only [hd, ho, hvd, hvo]

/-- The same for a row whose unmasked entries are the first 256. -/
theorem mean_tile_first {N : ℕ} (hN : 256 ≤ N) (s v : Fin N → EReal) (hs : ∀ j : Fin N, 256 ≤ j.val → s j = ⊥)
    (sd vd : Fin 256 → EReal) (hd : ∀ a : Fin 256, sd a = s ⟨a.val, by omega⟩) (hvd : ∀ a : Fin 256, vd a = v ⟨a.val, by omega⟩) :
    (∑ a, vd a * Ideal.exp2 (sd a - top sd)) * Ideal.div 1 (∑ a, Ideal.exp2 (sd a - top sd)) = mean s v := by
  have h := mean_tile 0 (by omega) s v (fun j hj => hs j (by omega)) sd vd (fun a => a.elim0) (fun a => a.elim0)
    (fun a => by simp only [hd, Nat.zero_add]) (fun a => a.elim0) (fun a => by simp only [hvd, Nat.zero_add]) (fun a => a.elim0)
  simpa [top_eq_sup] using h

/-- A finite sum of real numbers is the same sum taken in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real factor distributes over a finite sum of extended reals. -/
theorem sum_mul_real {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- A row of scores none of which is plus infinity and one of which is a number: its weights are real numbers, none
    negative, with a positive sum, whether the power is spelt `exp2` or as a power of the base two. -/
theorem weights {n : ℕ} (s : Fin n → EReal) (h1 : ∀ j, s j ≠ ⊤) (j0 : Fin n) (h0 : s j0 ≠ ⊥) :
    ∃ P : Fin n → ℝ, (∀ j, Ideal.exp2 (s j - top s) = P j) ∧ (∀ j, Ideal.pow ((2 : ℝ) : EReal) (s j - top s) = P j) ∧ 0 < ∑ j, P j := by
  have hne : (Finset.univ : Finset (Fin n)).Nonempty := ⟨j0, Finset.mem_univ _⟩
  obtain ⟨jm, -, hm⟩ := Finset.exists_mem_eq_sup Finset.univ hne s
  have ht : top s ≠ ⊤ := by rw [top_eq_sup, hm]; exact h1 jm
  have hb : top s ≠ ⊥ := fun h => h0 (le_bot_iff.mp (h ▸ (top_eq_sup s ▸ Finset.le_sup (f := s) (Finset.mem_univ j0))))
  obtain ⟨t, htt⟩ : ∃ t : ℝ, top s = t := ⟨(top s).toReal, (EReal.coe_toReal ht hb).symm⟩
  have key : ∀ j, ∃ p : ℝ, Ideal.exp2 (s j - top s) = p ∧ Ideal.pow ((2 : ℝ) : EReal) (s j - top s) = p ∧ 0 ≤ p ∧ (s j ≠ ⊥ → 0 < p) := by
    intro j
    rw [htt]
    by_cases hj : s j = ⊥
    · refine ⟨0, ?_, ?_, le_refl _, fun h => absurd hj h⟩
      · rw [hj, EReal.bot_sub]; rfl
      · rw [hj, EReal.bot_sub, Ideal.pow_coe_bot, if_neg (by norm_num), if_pos (by norm_num)]; rfl
    · obtain ⟨x, hx⟩ : ∃ x : ℝ, s j = x := ⟨(s j).toReal, (EReal.coe_toReal (h1 j) hj).symm⟩
      have hp : (0 : ℝ) < Real.rpow 2 (x - t) := Real.rpow_pos_of_pos (by norm_num) _
      refine ⟨Real.rpow 2 (x - t), ?_, ?_, hp.le, fun _ => hp⟩
      · rw [hx, ← EReal.coe_sub, Ideal.exp2_coe]
      · rw [hx, ← EReal.coe_sub, Ideal.pow_coe_coe]
  choose P hP1 hP2 hP3 hP4 using key
  exact ⟨P, hP1, hP2, Finset.sum_pos' (fun j _ => hP3 j) ⟨j0, Finset.mem_univ _, hP4 j0 h0⟩⟩

/-- The softmax as it is usually written, each weight divided by their sum before the values are weighed, gives the same mean. -/
theorem softmax_eq_mean {n : ℕ} (s v : Fin n → EReal) (h1 : ∀ j, s j ≠ ⊤) (j0 : Fin n) (h0 : s j0 ≠ ⊥) :
    ∑ j, v j * Ideal.div (Ideal.pow ((2 : ℝ) : EReal) (s j - top s)) (∑ i, Ideal.pow ((2 : ℝ) : EReal) (s i - top s)) = mean s v := by
  obtain ⟨P, hP1, hP2, hP⟩ := weights s h1 j0 h0
  unfold mean
  simp only [hP1, hP2, ← coe_sum]
  rw [Ideal.div_coe hP.ne', one_mul, sum_mul_real _ _ _ (by positivity)]
  refine Finset.sum_congr rfl fun j _ => ?_
  rw [Ideal.div_coe hP.ne', mul_assoc]

/-- The masked score of query row `b` against key `j`, of 2048 each, from their 128 lanes: minus infinity where the key's
    chunk of 64 is later than the query's. -/
def score (q k : Fin 2048 → Fin 128 → EReal) (b j : Fin 2048) : EReal :=
  if j.val / 64 ≤ b.val / 64 then ∑ d, q b d * k j d else ⊥

/-- With queries and keys finite no masked score is plus infinity. -/
theorem score_ne_top (q k : Fin 2048 → Fin 128 → EReal) (b j : Fin 2048) (hq : ∀ d, ∃ x : ℝ, q b d = x) (hk : ∀ d, ∃ x : ℝ, k j d = x) :
    score q k b j ≠ ⊤ ∧ (j.val / 64 ≤ b.val / 64 → score q k b j ≠ ⊥) := by
  choose x hx using hq
  choose y hy using hk
  unfold score
  have : ∑ d, q b d * k j d = ((∑ d, x d * y d : ℝ) : EReal) := by
    rw [coe_sum]; exact Finset.sum_congr rfl fun d _ => by rw [hx, hy, EReal.coe_mul]
  rw [this]
  by_cases h : j.val / 64 ≤ b.val / 64
  · rw [if_pos h]; exact ⟨EReal.coe_ne_top _, fun _ => EReal.coe_ne_bot _⟩
  · rw [if_neg h]; exact ⟨bot_ne_top, fun h' => absurd h' h⟩

/-- One element of the attention's result, at sequence-major row `r` and lane `l`: the batch is `r / 2048`, the head `l / 64`. -/
def attention (q k : Fin 65536 → Fin 2048 → EReal) (v : Fin 65536 → Fin 1024 → EReal) (r : Fin 65536) (l : Fin 1024) : EReal :=
  mean
    (score (fun b d => q ⟨r.val / 2048 * 2048 + b.val, by omega⟩ ⟨l.val / 64 * 128 + d.val, by omega⟩)
      (fun j d => k ⟨r.val / 2048 * 2048 + j.val, by omega⟩ ⟨l.val / 64 * 128 + d.val, by omega⟩) ⟨r.val % 2048, by omega⟩)
    fun j => v ⟨r.val / 2048 * 2048 + j.val, by omega⟩ l

end Cert.Proof.Softmax
-- ==== Proof.Block.lean ====
module
public import proofs.«01_k».proof.Proof.Gen.KernelIdeal.Frame
public import proofs.«01_k».proof.Proof.Softmax
public import Idealize.ShloMosaic.Lib.Pipeline.ValueKit
public import Idealize.ShloMosaic.Lib.Pipeline.ReadBack
public import Idealize.ShloMosaic.Lib.Pointwise

@[expose] public section
set_option maxRecDepth 16384
noncomputable section

open Idealize.ShloMosaic Idealize.ShloMosaic.TcCoe Idealize.SL.Sem
open Idealize.ShloMosaic.Pipeline (Dat)
open scoped BigOperators
namespace Cert.KernelIdeal.Hand
open Cert.KernelIdeal Cert.KernelIdeal.Gen

open scoped BigOperators
/-- The transposed values that the scratch holds: lane `d` of key `j` at row `d`, column `j`. -/
def VT (x2 : Vec Ideal S1x2048x128 .bf16) : S128x2048.Idx → Elt Ideal .bf16 := fun y => x2 (ix3 0 (y 1) (y 0))

/-- A load of the scratch after stores that are all blocks of one array `G` reads `G` there. -/
theorem readCov_blocks {sig : RefSig} {κ : Kind} {sp : Space} {s : Shape} {e : EltTy} {Val : EltTy → Type} [∀ e, Nonempty (Val e)]
    (v : View sig κ sp s e) (G : s.Idx → Val e) (L : List (View.Piece Val s e)) (r : Rect s)
    (h : View.PiecesOf G L) (hc : ∀ j : r.shape.Idx, ∃ p ∈ L, r.idx j ∈ p.1.set) :
    v.readCov L r.toLoadRect = View.ld G r := by
  rw [View.readCov_eq_canon']
  funext j
  have := View.canon_append_of_piecesOf G [] L h (r.idx j) (hc j)
  rw [List.append_nil] at this
  exact this

/-- The eight stores that fill the scratch. -/
abbrev vtStores (x2 : Vec Ideal S1x2048x128 .bf16) : List (View.Piece (Elt Ideal) S128x2048 .bf16) :=
      [⟨Rect.unit ![0, 1792] ![128, 256] inb_S128x2048_S128x256_0_1792, k0_pay9 (View.ld x2 (Rect.unit ![0, 1792, 0] ![1, 256, 128] inb_S1x2048x128_S1x256x128_0_1792_0))⟩,
       ⟨Rect.unit ![0, 1536] ![128, 256] inb_S128x2048_S128x256_0_1536, k0_pay8 (View.ld x2 (Rect.unit ![0, 1536, 0] ![1, 256, 128] inb_S1x2048x128_S1x256x128_0_1536_0))⟩,
       ⟨Rect.unit ![0, 1280] ![128, 256] inb_S128x2048_S128x256_0_1280, k0_pay7 (View.ld x2 (Rect.unit ![0, 1280, 0] ![1, 256, 128] inb_S1x2048x128_S1x256x128_0_1280_0))⟩,
       ⟨Rect.unit ![0, 1024] ![128, 256] inb_S128x2048_S128x256_0_1024, k0_pay6 (View.ld x2 (Rect.unit ![0, 1024, 0] ![1, 256, 128] inb_S1x2048x128_S1x256x128_0_1024_0))⟩,
       ⟨Rect.unit ![0, 768] ![128, 256] inb_S128x2048_S128x256_0_768, k0_pay5 (View.ld x2 (Rect.unit ![0, 768, 0] ![1, 256, 128] inb_S1x2048x128_S1x256x128_0_768_0))⟩,
       ⟨Rect.unit ![0, 512] ![128, 256] inb_S128x2048_S128x256_0_512, k0_pay4 (View.ld x2 (Rect.unit ![0, 512, 0] ![1, 256, 128] inb_S1x2048x128_S1x256x128_0_512_0))⟩,
       ⟨Rect.unit ![0, 256] ![128, 256] inb_S128x2048_S128x256_0_256, k0_pay3 (View.ld x2 (Rect.unit ![0, 256, 0] ![1, 256, 128] inb_S1x2048x128_S1x256x128_0_256_0))⟩,
       ⟨Rect.unit ![0, 0] ![128, 256] inb_S128x2048_S128x256_0_0, k0_pay2 (View.ld x2 (Rect.unit ![0, 0, 0] ![1, 256, 128] inb_S1x2048x128_S1x256x128_0_0_0))⟩]

/-- Each of the eight stores is a block of the transposed values. -/
theorem vtStores_blocks (x2 : Vec Ideal S1x2048x128 .bf16) : View.PiecesOf (VT x2) (vtStores x2) := by
  refine ⟨?_, ?_, ?_, ?_, ?_, ?_, ?_, ?_, trivial⟩ <;>
  · intro x
    idx_vars x
    pointwise [k0_pay2, k0_pay3, k0_pay4, k0_pay5, k0_pay6, k0_pay7, k0_pay8, k0_pay9]
    unfold VT
    blk_ext []

/-- A load of the scratch, after the eight stores, reads the transposed values. -/
theorem readCov_vt (v : View sig .tc .vmem S128x2048 .bf16) (x2 : Vec Ideal S1x2048x128 .bf16) (r : Rect S128x2048) :
    v.readCov (vtStores x2) r.toLoadRect = View.ld (VT x2) r :=
  readCov_blocks v (VT x2) _ r (vtStores_blocks x2) fun j => View.cover_of_tiled_head _ _ _ (by rfl) _

open Cert.Proof.Softmax

/-- The chunk mask of one 256 × 256 tile on the diagonal: entry (key, query) is set where the key's chunk of 64 is not
    later than the query's. -/
abbrev tileMask : IVec S256x256 1 := k0_pay12 (iota Kind.tc S256x256 32 [0] iota_S256x256_d0_w32) (64#32) k0_pay10 k0_pay11

/-- The kernel's floored quotient of a word by 64, as it is spelt. -/
def chunkWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- At a row of the tile it is the row's chunk. -/
theorem chunkWord_eq : ∀ a : Fin 256, chunkWord (BitVec.ofNat 32 a.val) = BitVec.ofNat 32 (a.val / 64) := by decide +kernel

/-- Comparing two chunk numbers as signed words compares them as numbers. -/
theorem sle_chunk : ∀ s t : Fin 4, IntOp.cmpi CmpIPredicate.sle (BitVec.ofNat 32 s.val) (BitVec.ofNat 32 t.val) = if s.val ≤ t.val then 1#1 else 0#1 := by
  decide +kernel

/-- The mask's entry is set exactly where the key's chunk is not later than the query's. -/
theorem tileMask_apply (a b : Fin 256) : tileMask (ix2 a b) = if a.val / 64 ≤ b.val / 64 then 1#1 else 0#1 := by
  have h : tileMask (ix2 a b) = IntOp.cmpi CmpIPredicate.sle (chunkWord (BitVec.ofNat 32 a.val)) (chunkWord (BitVec.ofNat 32 b.val)) := by
    pointwise [k0_pay12, k0_pay10, k0_pay11]
    rfl
  rw [h, chunkWord_eq, chunkWord_eq]
  exact sle_chunk ⟨a.val / 64, by omega⟩ ⟨b.val / 64, by omega⟩

/-- Row `b` of lane group `h` of a block of queries or keys. -/
abbrev lanes (q : Vec Ideal S1x2048x256 .bf16) (h : Fin 2) (b : Fin 2048) (d : Fin 128) : EReal :=
  q (ix3 0 b ⟨128 * h.val + d.val, by omega⟩)

/-- The pattern of the kernel's initial maximum is minus infinity. -/
theorem ofBits_bot : Ideal.ofBits FTy.f32 0xFF800000#32 = ⊥ := by
  simp [Ideal.ofBits, Ideal.ieee]

/-- A selection by the mask between a score and the named constant, in a tile that starts at `x`, a multiple of 64, is the
    masked score. -/
theorem select_score (q k : Vec Ideal S1x2048x256 .bf16) (h : Fin 2) (r j : Fin 2048) (m : BitVec 1) (s : EReal) (x a b : ℕ)
    (hm : m = if a / 64 ≤ b / 64 then 1#1 else 0#1) (hj : j.val = x + a) (hr : r.val = x + b) (hx : 64 ∣ x)
    (hs : s = ∑ d : Fin 128, q (ix3 0 r ⟨128 * h.val + d.val, by omega⟩) * k (ix3 0 j ⟨128 * h.val + d.val, by omega⟩)) :
    Scalar.select m s (Named.named (F := Ideal) (φ := .f32) κ "mask" 0xF149F2CA#32 : EReal) = score (lanes q h) (lanes k h) r j := by
  obtain ⟨n, rfl⟩ := hx
  rw [hm, IdealRules.named_const.ideal_named_scalar _ _ _ _ rfl]
  unfold score
  have : j.val / 64 ≤ r.val / 64 ↔ a / 64 ≤ b / 64 := by omega
  by_cases h : a / 64 ≤ b / 64
  · rw [if_pos h, if_pos (this.mpr h), ← hs]; rfl
  · rw [if_neg h, if_neg (mt this.mp h)]; rfl

set_option maxHeartbeats 4000000 in
/-- What the body leaves in its output block, at an element: the weighted mean of the block's values under the masked
    scores of the element's row and lane group. -/
theorem out_apply (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x2048 .bf16) (harg6 : arg6.IsWhole)
    (q k : Vec Ideal S1x2048x256 .bf16) (v : Vec Ideal S1x2048x128 .bf16) (y : S1x2048x128.Idx) :
    out0_A_3 c i arg2 harg2 arg3 harg3 arg4 harg4 arg5 harg5 arg6 harg6 q k v y =
      mean (score (lanes q ⟨(y 2).val / 64, by have := (y 2).isLt; change _ < 128 at this; omega⟩)
        (lanes k ⟨(y 2).val / 64, by have := (y 2).isLt; change _ < 128 at this; omega⟩) (y 1)) fun j => v (ix3 0 j (y 2)) := by
  unfold out0_A_3
  frame_out
  simp only [readCov_vt]
  have hM := tileMask_apply
  unfold tileMask at hM
  generalize k0_pay12 _ _ _ _ = M at hM ⊢
  canon_tiles x h <;>
  · idx_vars x
    open_payloads
    pointwise [k0_pay1]
    simp only [ofBits_bot]
    first
    | refine mean_tile _ (by decide) _ _ (fun j hj => if_neg (by omega)) _ _ _ _ (fun a => ?_) (fun a => ?_) (fun a => ?_) (fun a => ?_)
      · refine select_score _ _ _ _ _ _ _ _ _ _ (hM a x1) rfl h1 (by decide) (Finset.sum_congr rfl fun d _ => ?_)
        rw [mul_comm]
        congr 1 <;> blk_ext []
      · refine Eq.trans (Finset.sum_congr rfl fun d _ => ?_) (if_pos (by simp only [h1]; omega)).symm
        rw [mul_comm]
        congr 1 <;> blk_ext []
      · unfold VT; blk_ext []
      · unfold VT; blk_ext []
    | refine mean_tile_first (by decide) _ _ (fun j hj => if_neg (by omega)) _ _ (fun a => ?_) (fun a => ?_)
      · refine select_score _ _ _ _ _ _ _ 0 _ _ (hM a x1) (Nat.zero_add _).symm (h1.trans (Nat.zero_add _).symm) (by decide) (Finset.sum_congr rfl fun d _ => ?_)
        rw [mul_comm]
        congr 1 <;> blk_ext []
      · unfold VT; blk_ext []
end Cert.KernelIdeal.Hand
-- ==== Proof.Ref.lean ====
module
public import proofs.«01_k».proof.Proof.Gen.ReferenceIdeal.Read
public import proofs.«01_k».proof.Proof.Softmax
public import Idealize.ShloMosaic.Lib.Pipeline.ValueKit
public import Idealize.ShloMosaic.Lib.Pointwise

@[expose] public section
set_option maxRecDepth 16384
noncomputable section

open Idealize.ShloMosaic Idealize.ShloMosaic.TcCoe Idealize.SL.Sem
open scoped BigOperators
namespace Cert.ReferenceIdeal.Hand
open Cert.ReferenceIdeal Cert.ReferenceIdeal.Gen Cert.ReferenceIdeal.Read Cert.Proof.Softmax

/-- The reference's scores: the product of a query row and a key row, head by head. -/
theorem scores_eq (q k : Vec Ideal S65536x2048 .bf16) (n : Fin 32) (h : Fin 16) (b j : Fin 2048) :
    val_main_v8 (F := Ideal) q k (ix4 n h b j) =
      ∑ d : Fin 128, q (ix2 ⟨n.val * 2048 + b.val, by omega⟩ ⟨h.val * 128 + d.val, by omega⟩) *
        k (ix2 ⟨n.val * 2048 + j.val, by omega⟩ ⟨h.val * 128 + d.val, by omega⟩) := by
  pointwise [val_main_v8, val_main_v1, val_main_v0, val_main_v3, val_main_v2]

/-- The reference's floored quotient of a word by 64, as it is spelt. -/
def chunkWord (w : BitVec 32) : BitVec 32 :=
  Scalar.select
    (IntOp.andi
      (IntOp.cmpi CmpIPredicate.ne ((if w = 0 then 0 else if w.msb = true then -1 else 1) : BitVec 32)
        (if (64#32 : BitVec 32) = 0 then 0 else if BitVec.msb (64#32) = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

/-- On the row numbers, the floored quotient by 64 is the quotient. -/
theorem chunkWord_eq : ∀ j : Fin 2048, chunkWord (BitVec.ofNat 32 j.val) = BitVec.ofNat 32 (j.val / 64) := by decide +kernel

/-- Comparing two chunk numbers as signed words compares them as numbers. -/
theorem sle_chunk : ∀ s t : Fin 32, IntOp.cmpi CmpIPredicate.sle (BitVec.ofNat 32 s.val) (BitVec.ofNat 32 t.val) = if s.val ≤ t.val then 1#1 else 0#1 := by
  decide +kernel

/-- The chunk of row `j` is `j / 64`. -/
theorem chunk_eq (j : Fin 2048) : val_main_v7 (F := Ideal) (ix1 j) = BitVec.ofNat 32 (j.val / 64) := by
  rw [← chunkWord_eq]
  pointwise [val_main_v7, val_main_call0_v2, val_main_call0_v13, val_main_call0_v11, val_main_call0_v12, val_main_call0_v10,
    val_main_call0_v9, val_main_call0_v8, val_main_call0_v7, val_main_call0_v6, val_main_call0_v5, val_main_call0_v4,
    val_main_call0_v3, val_main_call0_v1, val_main_call0_v0, val_main_call0_c, val_main_call0_c_0, val_main_c, val_main_v6]
  rfl

/-- The mask is on where the key's chunk is not after the query's. -/
theorem mask_eq (b j : Fin 2048) : val_main_v13 (F := Ideal) (ix2 b j) = if j.val / 64 ≤ b.val / 64 then 1#1 else 0#1 := by
  have h : val_main_v13 (F := Ideal) (ix2 b j) = IntOp.cmpi CmpIPredicate.sle (val_main_v7 (F := Ideal) (ix1 j)) (val_main_v7 (F := Ideal) (ix1 b)) := by
    pointwise [val_main_v13, val_main_v12, val_main_v11, val_main_v10, val_main_v9]
  rw [h, chunk_eq, chunk_eq]
  exact sle_chunk ⟨j.val / 64, by omega⟩ ⟨b.val / 64, by omega⟩

/-- The reference's masked scores, at an index. -/
theorem masked_eq (q k : Vec Ideal S65536x2048 .bf16) (n : Fin 32) (h : Fin 16) (b j : Fin 2048) :
    val_main_v15 (F := Ideal) q k (ix4 n h b j) =
      score (fun b d => q (ix2 ⟨n.val * 2048 + b.val, by omega⟩ ⟨h.val * 128 + d.val, by omega⟩))
        (fun j d => k (ix2 ⟨n.val * 2048 + j.val, by omega⟩ ⟨h.val * 128 + d.val, by omega⟩)) b j := by
  have hs : val_main_v15 (F := Ideal) q k (ix4 n h b j) =
      Scalar.select (val_main_v13 (F := Ideal) (ix2 b j)) (val_main_v8 (F := Ideal) q k (ix4 n h b j)) (Ideal.ofBits FTy.f32 0xFF800000#32) := by
    pointwise [val_main_v15, val_main_v14, val_main_call1_v0, val_main_call1_v1, val_main_call1_v2, val_main_cst]
    rfl
  rw [hs, mask_eq, scores_eq]
  unfold score
  by_cases hc : j.val / 64 ≤ b.val / 64
  · rw [if_pos hc, if_pos hc]; rfl
  · rw [if_neg hc, if_neg hc]; simp [Scalar.select, Ideal.ofBits, Ideal.ieee]

/-- The reference's result at an index, for finite queries and keys. -/
theorem out_eq (q k : Vec Ideal S65536x2048 .bf16) (v : Vec Ideal S65536x1024 .bf16) (hq : ∀ i, ∃ x : ℝ, q i = (x : EReal))
    (hk : ∀ i, ∃ x : ℝ, k i = (x : EReal)) (r : Fin 65536) (l : Fin 1024) :
    val_main_v29 (F := Ideal) q k v (ix2 r l) =
      attention (fun a b => q (ix2 a b)) (fun a b => k (ix2 a b)) (fun a b => v (ix2 a b)) r l := by
  pointwise [val_main_v29, val_main_v28, val_main_v27, val_main_v26, val_main_v25, val_main_v24, val_main_v23, val_main_v22,
    val_main_v21, val_main_v20, val_main_v19, val_main_v18, val_main_v17, val_main_v16, val_main_cst_0, val_main_cst_1,
    val_main_cst_2, val_main_v4, val_main_v5]
  have two : Ideal.ofBits FTy.f32 1073741824#32 = ((2 : ℝ) : EReal) := by
    simp [Ideal.ofBits, Ideal.ieee]
    rw [← EReal.coe_mul]; norm_num
  have bot : Ideal.ofBits FTy.f32 4286578688#32 = ⊥ := by simp [Ideal.ofBits, Ideal.ieee]
  simp only [masked_eq, two, bot]
  exact softmax_eq_mean _ _ (fun j => (score_ne_top _ _ _ _ (fun d => hq _) fun d => hk _).1) ⟨r.val % 2048, by omega⟩
    ((score_ne_top _ _ _ _ (fun d => hq _) fun d => hk _).2 (le_refl _))
end Cert.ReferenceIdeal.Hand
-- ==== Proof.Attn.lean ====
module
public import proofs.«01_k».proof.Proof.Block
public import proofs.«01_k».proof.Proof.Ref

@[expose] public section
set_option maxRecDepth 16384
noncomputable section

open Idealize.ShloMosaic Idealize.ShloMosaic.TcCoe Idealize.SL.Sem
open Idealize.ShloMosaic.Pipeline (Dat)
open scoped BigOperators
namespace Cert.KernelIdeal.Hand
open Cert.KernelIdeal Cert.KernelIdeal.Gen Cert.Proof.Softmax

variable (m : (ℓ : Loc nD τ sig) → Buf (Elt Ideal) ℓ) (ρ : Dev nD → PrngReg)

/-- The attention of the argument arrays at row `r`, lane `l`. -/
def at' (c : Dev nD) (r : Fin 65536) (l : Fin 1024) : EReal :=
  attention (fun a b => m ((c : Thread nD τ).loc main_arg0) (ix2 a b)) (fun a b => m ((c : Thread nD τ).loc main_arg1) (ix2 a b))
    (fun a b => m ((c : Thread nD τ).loc main_arg2) (ix2 a b)) r l

/-- The region's output array: the attention, batch by batch. -/
def G3 (c : Dev nD) : Buf (Elt Ideal) ((c : Thread nD τ).loc main_v3) := fun i =>
  at' m c ⟨(i 0).val * 2048 + (i 1).val, by have h0 : (i 0).val < 32 := (i 0).isLt; have h1 : (i 1).val < 2048 := (i 1).isLt; omega⟩ (i 2)

/-- The block index of each window at a grid point. -/
theorem idx : ∀ t : Fin grid0.N, win0_0.index t = ![t.val / 8, 0, t.val % 8] ∧ win0_1.index t = ![t.val / 8, 0, t.val % 8]
    ∧ win0_2.index t = ![t.val / 8, 0, t.val % 8] ∧ win0_3.index t = ![t.val / 8, 0, t.val % 8] := by decide +kernel

/-- Argument 0 enters the region reshaped to one batch per leading index. -/
theorem entry0 (c : Dev nD) : V m c main_v0 = shapeCast S32x2048x2048 (m ((c : Thread nD τ).loc main_arg0)) shapeCasts_S65536x2048_S32x2048x2048 := by
  entry_read
  rfl

/-- Argument 1 enters the region reshaped to one batch per leading index. -/
theorem entry1 (c : Dev nD) : V m c main_v1 = shapeCast S32x2048x2048 (m ((c : Thread nD τ).loc main_arg1)) shapeCasts_S65536x2048_S32x2048x2048 := by
  entry_read
  rfl

/-- Argument 2 enters the region reshaped to one batch per leading index. -/
theorem entry2 (c : Dev nD) : V m c main_v2 = shapeCast S32x2048x1024 (m ((c : Thread nD τ).loc main_arg2)) shapeCasts_S65536x1024_S32x2048x1024 := by
  entry_read
  rfl

/-- A block of the queries, at row `b` and lane `l`. -/
theorem blk0 (c : Dev nD) (t : Fin cfg0.N) (b : Fin 2048) (l : Fin 256) (r : Fin 65536) (e : Fin 2048)
    (hr : r.val = t.val / 8 * 2048 + b.val) (he : e.val = t.val % 8 * 256 + l.val) :
    iblk m c 0 t (ix3 0 b l) = m ((c : Thread nD τ).loc main_arg0) (ix2 r e) := by
  have e0 : (((win0_0.blk t).view.emb (ix3 0 b l)) 0).val = t.val / 8 := by blk_simp [idx t]; rfl
  have e1 : (((win0_0.blk t).view.emb (ix3 0 b l)) 1).val = b.val := by blk_simp [idx t]
  have e2 : (((win0_0.blk t).view.emb (ix3 0 b l)) 2).val = t.val % 8 * 256 + l.val := by blk_simp [idx t]
  change V m c main_v0 ((win0_0.blk t).view.emb (ix3 0 b l)) = _
  rw [entry0]
  generalize (win0_0.blk t).view.emb (ix3 0 b l) = i at e0 e1 e2 ⊢
  refine shapeCast_apply _ shapeCasts_S65536x2048_S32x2048x2048 i (ix2 r e) ?_
  rw [Shape.rowMajor_val_two, Shape.rowMajor_val_three, e0, e1, e2]
  change r.val * 2048 + e.val = (t.val / 8 * 2048 + b.val) * 2048 + _
  rw [hr, he]

/-- A block of the keys, at row `b` and lane `l`. -/
theorem blk1 (c : Dev nD) (t : Fin cfg0.N) (b : Fin 2048) (l : Fin 256) (r : Fin 65536) (e : Fin 2048)
    (hr : r.val = t.val / 8 * 2048 + b.val) (he : e.val = t.val % 8 * 256 + l.val) :
    iblk m c 1 t (ix3 0 b l) = m ((c : Thread nD τ).loc main_arg1) (ix2 r e) := by
  have e0 : (((win0_1.blk t).view.emb (ix3 0 b l)) 0).val = t.val / 8 := by blk_simp [idx t]; rfl
  have e1 : (((win0_1.blk t).view.emb (ix3 0 b l)) 1).val = b.val := by blk_simp [idx t]
  have e2 : (((win0_1.blk t).view.emb (ix3 0 b l)) 2).val = t.val % 8 * 256 + l.val := by blk_simp [idx t]
  change V m c main_v1 ((win0_1.blk t).view.emb (ix3 0 b l)) = _
  rw [entry1]
  generalize (win0_1.blk t).view.emb (ix3 0 b l) = i at e0 e1 e2 ⊢
  refine shapeCast_apply _ shapeCasts_S65536x2048_S32x2048x2048 i (ix2 r e) ?_
  rw [Shape.rowMajor_val_two, Shape.rowMajor_val_three, e0, e1, e2]
  change r.val * 2048 + e.val = (t.val / 8 * 2048 + b.val) * 2048 + _
  rw [hr, he]

/-- A block of the values, at row `b` and lane `l`. -/
theorem blk2 (c : Dev nD) (t : Fin cfg0.N) (b : Fin 2048) (l : Fin 128) (r : Fin 65536) (e : Fin 1024)
    (hr : r.val = t.val / 8 * 2048 + b.val) (he : e.val = t.val % 8 * 128 + l.val) :
    iblk m c 2 t (ix3 0 b l) = m ((c : Thread nD τ).loc main_arg2) (ix2 r e) := by
  have e0 : (((win0_2.blk t).view.emb (ix3 0 b l)) 0).val = t.val / 8 := by blk_simp [idx t]; rfl
  have e1 : (((win0_2.blk t).view.emb (ix3 0 b l)) 1).val = b.val := by blk_simp [idx t]
  have e2 : (((win0_2.blk t).view.emb (ix3 0 b l)) 2).val = t.val % 8 * 128 + l.val := by blk_simp [idx t]
  change V m c main_v2 ((win0_2.blk t).view.emb (ix3 0 b l)) = _
  rw [entry2]
  generalize (win0_2.blk t).view.emb (ix3 0 b l) = i at e0 e1 e2 ⊢
  refine shapeCast_apply _ shapeCasts_S65536x1024_S32x2048x1024 i (ix2 r e) ?_
  rw [Shape.rowMajor_val_two, Shape.rowMajor_val_three, e0, e1, e2]
  change r.val * 1024 + e.val = (t.val / 8 * 2048 + b.val) * 1024 + _
  rw [hr, he]

/-- Where an element of the output block lies in the output array. -/
theorem emb3 (t : Fin cfg0.N) (y : S1x2048x128.Idx) :
    (((win0_3.blk t).view.emb y) 0).val = t.val / 8 ∧ (((win0_3.blk t).view.emb y) 1).val = (y 1).val
      ∧ (((win0_3.blk t).view.emb y) 2).val = t.val % 8 * 128 + (y 2).val := by
  idx_vars y
  refine ⟨?_, ?_, ?_⟩ <;> blk_simp [idx t]

/-- The region's output array after the run. -/
theorem final (c : Dev nD) : (dats m 0 c).arrAt 3 cfg0.N = G3 m c := by
  refine (dats m 0 c).arrAt_eq_of_covers 3 _ (by decide +kernel) fun t hf y => ?_
  blk_simp
  rw [after0_3]
  unfold outsAt0
  refine (out_apply _ _ _ _ _ _ _ _ _ _ _ _ _ _ _ y).trans ?_
  obtain ⟨e0, e1, e2⟩ := emb3 t y
  have hb : (t.val / 8) < 32 := by have := t.isLt; change _ < 256 at this; omega
  have h1 : (y 1).val < 2048 := (y 1).isLt
  have h2 : (y 2).val < 128 := (y 2).isLt
  unfold G3 at' attention
  generalize (win0_3.blk t).view.emb y = i at e0 e1 e2 ⊢
  congr 1
  · congr 1
    · funext b d
      exact blk0 m c t _ _ _ _ (by simp only [e0, e1]; omega) (by simp only [e2]; omega)
    · funext b d
      exact blk1 m c t _ _ _ _ (by simp only [e0, e1]; omega) (by simp only [e2]; omega)
    · exact Fin.ext (by simp only [e0, e1]; omega)
  · funext j
    exact blk2 m c t _ _ _ _ (by simp only [e0, e1]; omega) (by simp only [e2])

/-- The run: the result array at the attention of the arguments, the arguments unchanged. -/
theorem run : θ_run defs (onTc (τ := τ) (main (F := Ideal))) ⟨m, fun _ => 0, ρ⟩ fun r => ∀ c : Dev nD,
      r.2.mem ((c : Thread nD τ).loc main_v4) = (fun i => at' m c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  have h4 := (h.1 c).2 main_v4 (Pipeline.mem_restRefs_of main_v4 (by decide) (by decide))
  refine h4.trans ?_
  unfold Pipeline.afterTail₀
  have hW : Pipeline.withArrays (cfgs 0).spec c (V0 m c) (fun w => (dats m 0 c).arrAt w (cfgs 0).N) (Proc.devRef .tc main_v3) = G3 m c :=
    (Pipeline.withArrays_arr (cfgs 0).spec (by decide) c (V0 m c) _ 3).trans (final m c)
  generalize Pipeline.withArrays (cfgs 0).spec c (V0 m c) (fun w => (dats m 0 c).arrAt w (cfgs 0).N) = W at hW ⊢
  have hR : StableHlo.after [hostOps1].flatten W (Proc.devRef .tc main_v4) = shapeCast S65536x1024 (W (Proc.devRef .tc main_v3)) shapeCasts_S32x2048x1024_S65536x1024 := by
    entry_read
    rfl
  refine hR.trans ?_
  rw [hW]
  funext i
  have h0 : (i 0).val < 65536 := (i 0).isLt
  refine (shapeCast_apply _ shapeCasts_S32x2048x1024_S65536x1024 i (ix3 ⟨(i 0).val / 2048, by omega⟩ ⟨(i 0).val % 2048, by omega⟩ (i 1)) ?_).trans ?_
  · rw [Shape.rowMajor_val_two, Shape.rowMajor_val_three]
    change ((i 0).val / 2048 * 2048 + (i 0).val % 2048) * 1024 + _ = (i 0).val * 1024 + _
    rw [Nat.div_add_mod']
    rfl
  · unfold G3
    congr 1
    exact Fin.ext (Nat.div_add_mod' _ _)
end Cert.KernelIdeal.Hand
-- ==== Proof.Dense.lean ====
/-
  The output projection, the residual, the root-mean-square norm and the dense feed-forward of one row:
  the function both the kernel and the reference compute, and the kernel's block read as it.
-/
module

public import proofs.«01_k».proof.Proof.Gen.DenseIdeal.Value
public import proofs.«01_k».proof.Proof.Gen.DenseRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Proof.Dense

/-- One row of the residual stream after the projection: `x + o · w_o`. -/
def resid (o : Fin 1024 → EReal) (wo : Fin 1024 → Fin 1024 → EReal) (x : Fin 1024 → EReal) (j : Fin 1024) : EReal :=
  x j + ∑ k, o k * wo k j

/-- One row scaled by the reciprocal root of its mean square (plus the small constant) and by the gains. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- The gate of the feed-forward: `a · σ(a) · b`. -/
def gate (a b : EReal) : EReal := a * Ideal.logistic a * b

/-- One row of the layer's dense block. -/
def row (o : Fin 1024 → EReal) (wo : Fin 1024 → Fin 1024 → EReal) (x g : Fin 1024 → EReal)
    (w1 w3 : Fin 1024 → Fin 2816 → EReal) (w2 : Fin 2816 → Fin 1024 → EReal) (j : Fin 1024) : EReal :=
  resid o wo x j + ∑ c, gate (∑ k, normed (resid o wo x) g k * w1 k c) (∑ k, normed (resid o wo x) g k * w3 k c) * w2 c j

end Cert.Proof.Dense

namespace Cert.DenseIdeal.Hand

open Cert.DenseIdeal Cert.DenseIdeal.Gen Cert.Proof.Dense

/-- The kernel's block at row `r`, column `j`: the dense block of the row's loads. -/
theorem pay_eq (v0 : Vec Ideal S512x1024 .f32) (v1 : Vec Ideal S512x1024 .bf16) (v2 : Vec Ideal S1024x1024 .bf16)
    (v6 : Vec Ideal S1x1024 .f32) (v21 v24 : Vec Ideal S1024x2816 .bf16) (v31 : Vec Ideal S2816x1024 .bf16) (r : Fin 512) (j : Fin 1024) :
    k0_pay1 v0 v1 v2 v6 v21 v24 v31 (ix2 r j)
      = row (fun k => v1 (ix2 r k)) (fun k j => v2 (ix2 k j)) (fun k => v0 (ix2 r k)) (fun k => v6 (ix2 0 k))
          (fun k c => v21 (ix2 k c)) (fun k c => v24 (ix2 k c)) (fun c j => v31 (ix2 c j)) j := by
  pointwise [k0_pay1]
  rfl

variable (m : (ℓ : Loc nD τ sig) → Buf (Elt Ideal) ℓ) (ρ : Dev nD → PrngReg)

/-- The result array as one function of the argument arrays: the dense block, row by row. -/
def G (c : Dev nD) : Buf (Elt Ideal) ((c : Thread nD τ).loc main_v5) := fun i =>
  row (fun k => m ((c : Thread nD τ).loc main_arg0) (ix2 (i 0) k)) (fun k j => m ((c : Thread nD τ).loc main_arg1) (ix2 k j))
    (fun k => m ((c : Thread nD τ).loc main_arg2) (ix2 (i 0) k)) (fun k => m ((c : Thread nD τ).loc main_arg3) (ix1 k))
    (fun k j => m ((c : Thread nD τ).loc main_arg4) (ix2 k j)) (fun k j => m ((c : Thread nD τ).loc main_arg5) (ix2 k j))
    (fun k j => m ((c : Thread nD τ).loc main_arg6) (ix2 k j)) (i 1)

/-- The block index of each window at a grid point. -/
theorem idx : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] := by decide +kernel

/-- The result array after the run: each grid point writes its 512 rows, and the blocks tile the array. -/
theorem final (c : Dev nD) : (dats m 0 c).arrAt 7 cfg0.N = G m c := by
  refine (dats m 0 c).arrAt_eq_of_covers 7 _ (by decide +kernel) fun t hf y => ?_
  blk_simp
  rw [after0_7]
  frame_out
  idx_vars y
  rw [pay_eq]
  unfold G
  congr 1
  · funext k; blk_ext [iblk, V_main_arg0, idx t]
  · funext k j; blk_ext! [iblk, V, idx t]
  · funext k; blk_ext [iblk, V_main_arg2, idx t]
  · funext k; blk_ext! [iblk, V, idx t]
  · funext k j; blk_ext! [iblk, V, idx t]
  · funext k j; blk_ext! [iblk, V, idx t]
  · funext k j; blk_ext! [iblk, V, idx t]
  · exact Fin.ext (by blk_simp [idx t])

/-- The run: the result array at the dense block of the arguments, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.DenseIdeal.Hand

namespace Cert.DenseRefIdeal.Hand

open Cert.DenseRefIdeal Cert.Proof.Dense

/-- The reference's result array is the dense block of its arguments, row by row. -/
theorem res_eq (m : (ℓ : Loc nD τ sig) → Buf (Elt Ideal) ℓ) (c : Dev nD) (i : S65536x1024.Idx) :
    Value.res_main_v21 m c i =
  row (fun k => m ((c : Thread nD τ).loc main_arg0) (ix2 (i 0) k)) (fun k j => m ((c : Thread nD τ).loc main_arg1) (ix2 k j))
    (fun k => m ((c : Thread nD τ).loc main_arg2) (ix2 (i 0) k)) (fun k => m ((c : Thread nD τ).loc main_arg3) (ix1 k))
    (fun k j => m ((c : Thread nD τ).loc main_arg4) (ix2 k j)) (fun k j => m ((c : Thread nD τ).loc main_arg5) (ix2 k j))
    (fun k j => m ((c : Thread nD τ).loc main_arg6) (ix2 k j)) (i 1) := by
  idx_vars i
  pointwise [Value.res_main_v21]
  rfl

end Cert.DenseRefIdeal.Hand
-- ==== Proof.Finite.lean ====
/- What the precondition `finite` says: every query and every key is a real number. -/
module
public import proofs.«01_k».proof.Proof.Gen.Pre_finite
public import Idealize.ShloMosaic.Lib.ReduceAll
public import Idealize.ShloMosaic.Lib.Pipeline.ValueKit

@[expose] public section
noncomputable section

open Idealize.ShloMosaic
namespace Cert.Proof.Finite
open Cert.Pre_finite Cert.Pre_finite.Gen

/-- A value whose absolute value compares below `+∞` is a real number. -/
theorem real_of_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The precondition read at every query and every key. -/
theorem reals (q k : Vec Ideal S65536x2048 .bf16) (v : Vec Ideal S65536x1024 .bf16) (h : fn (F := Ideal) q k v = fun _ => 1) :
    (∀ i, ∃ x : ℝ, q i = (x : EReal)) ∧ ∀ i, ∃ x : ℝ, k i = (x : EReal) := by
  have h0 := congrFun h ix0
  obtain ⟨h1, h2⟩ := IntOp.andi_eq_one.1 h0
  have hs : Subsingleton S_.Idx := ⟨fun a b => funext fun d => d.elim0⟩
  have hi : Ideal.ofBits .f32 0x7F800000#32 = ⊤ := by simp [Ideal.ofBits, Ideal.ieee]
  refine ⟨fun i => ?_, fun i => ?_⟩
  · have := Host.reduce_andi_all _ _ _ _ _ h1 i
    refine real_of_lt _ ?_
    rw [← hi]
    exact this
  · have := Host.reduce_andi_all _ _ _ _ _ h2 i
    refine real_of_lt _ ?_
    rw [← hi]
    exact this

end Cert.Proof.Finite
-- ==== Proof.Sched.lean ====
/-
  The experts' schedule over the naturals: from the number of rows of each of the eight experts, the visits (one per
  tile of 512 rows that an expert's rows meet), the tile and the expert of each visit, and what the visits cover.
-/
module

public import Idealize.ShloMosaic.Lib.Routing.Ops

@[expose] public section

namespace Cert.Sched

/-- The running sum of `c` up to and with `e`. -/
def en (c : Nat → Nat) (e : Nat) : Nat := ((List.range (e + 1)).map c).sum

/-- The running sum of `c` before `e`. -/
def off (c : Nat → Nat) (e : Nat) : Nat := en c e - c e

theorem en_zero (c : Nat → Nat) : en c 0 = c 0 := by simp [en]

theorem en_succ (c : Nat → Nat) (e : Nat) : en c (e + 1) = en c e + c (e + 1) := by
  unfold en
  rw [List.range_succ, List.map_append, List.sum_append]
  simp

theorem le_en (c : Nat → Nat) (e : Nat) : c e ≤ en c e := by
  cases e with
  | zero => rw [en_zero]
  | succ e => rw [en_succ]; omega

theorem off_zero (c : Nat → Nat) : off c 0 = 0 := by unfold off; rw [en_zero]; omega

theorem off_succ (c : Nat → Nat) (e : Nat) : off c (e + 1) = en c e := by unfold off; rw [en_succ]; omega

theorem off_add (c : Nat → Nat) (e : Nat) : off c e + c e = en c e := by
  have := le_en c e; unfold off; omega

theorem en_mono (c : Nat → Nat) : Monotone (en c) := monotone_nat_of_le_succ fun e => by rw [en_succ]; omega

/-- An earlier expert's rows end before a later one's begin. -/
theorem en_le_off (c : Nat → Nat) {a b : Nat} (h : a < b) : en c a ≤ off c b := by
  obtain ⟨b, rfl⟩ : ∃ d, b = d + 1 := ⟨b - 1, by omega⟩
  rw [off_succ]; exact en_mono c (by omega)

/-- The number of the first eight running sums that are at most `x` is the place whose span holds `x`. -/
theorem count_eq (c : Nat → Nat) {x e : Nat} (he : e < 8) (h1 : off c e ≤ x) (h2 : x < en c e) :
    Nat.count (fun k => en c k ≤ x) 8 = e := by
  rw [Nat.count_eq_card_filter_range]
  have : (Finset.range 8).filter (fun k => en c k ≤ x) = Finset.range e := by
    ext k
    simp only [Finset.mem_filter, Finset.mem_range]
    constructor
    · rintro ⟨_, hk⟩
      by_contra hke
      have := en_mono c (show e ≤ k by omega)
      omega
    · intro hk
      exact ⟨by omega, (en_le_off c hk).trans h1⟩
  rw [this, Finset.card_range]

/-- A number below the last running sum lies in the span of one of the eight places. -/
theorem exists_span (c : Nat → Nat) {x : Nat} (h : x < en c 7) : ∃ e, e < 8 ∧ off c e ≤ x ∧ x < en c e := by
  classical
  have hex : ∃ e, x < en c e := ⟨7, h⟩
  refine ⟨Nat.find hex, ?_, ?_, Nat.find_spec hex⟩
  · have := Nat.find_min' hex h; omega
  · rcases Nat.eq_zero_or_pos (Nat.find hex) with h0 | h0
    · rw [h0, off_zero]; omega
    · obtain ⟨d, hd⟩ : ∃ d, Nat.find hex = d + 1 := ⟨Nat.find hex - 1, by omega⟩
      rw [hd, off_succ]
      have := Nat.find_min hex (show d < Nat.find hex by omega)
      omega

/-- The first tile an expert's rows meet. -/
def tf (c : Nat → Nat) (e : Nat) : Nat := off c e / 512

/-- The last tile an expert's rows meet. -/
def tl (c : Nat → Nat) (e : Nat) : Nat := max (en c e - 1) (off c e) / 512

/-- The number of an expert's visits. -/
def nv (c : Nat → Nat) (e : Nat) : Nat := if 0 < c e then tl c e - tf c e + 1 else 0

/-- The number of visits. -/
def np (c : Nat → Nat) : Nat := en (nv c) 7

/-- The visit a grid point stands for: the points past the last visit repeat it. -/
def ps (c : Nat → Nat) (t : Nat) : Nat := min t (np c - 1)

/-- The expert of a grid point. -/
def ex (c : Nat → Nat) (t : Nat) : Nat := min (Nat.count (fun e => en (nv c) e ≤ ps c t) 8) 7

/-- The tile of a grid point. -/
def tile (c : Nat → Nat) (t : Nat) : Nat := tf c (ex c t) + (ps c t - off (nv c) (ex c t))

/-- The expert that owns a row: the number of experts whose rows end at or before it. -/
def owner (c : Nat → Nat) (R : Nat) : Nat := Nat.count (fun e => en c e ≤ R) 8

variable (c : Nat → Nat) (hs : en c 7 = 131072)

theorem ex_lt (t : Nat) : ex c t < 8 := by unfold ex; omega

theorem nv_pos {e : Nat} (h : 0 < nv c e) : 0 < c e := by
  unfold nv at h; split at h
  · assumption
  · omega

theorem tl_eq {e : Nat} (h : 0 < c e) : tl c e = (en c e - 1) / 512 := by
  unfold tl
  have := off_add c e
  rw [max_eq_left (by omega)]

theorem nv_eq {e : Nat} (h : 0 < c e) : nv c e + tf c e = (en c e - 1) / 512 + 1 := by
  unfold nv
  rw [if_pos h, tl_eq c h]
  have h1 := off_add c e
  have : tf c e ≤ (en c e - 1) / 512 := by unfold tf; exact Nat.div_le_div_right (by omega)
  omega

/-- The visits up to an expert are at most the tiles begun and the experts passed. -/
theorem ve_le (e : Nat) : en (nv c) e ≤ (en c e + 511) / 512 + e := by
  have key : ∀ e, nv c e ≤ (en c e + 511) / 512 - off c e / 512 := fun e => by
    by_cases h : 0 < c e
    · have h1 := nv_eq c h
      have h2 := off_add c e
      unfold tf at h1
      omega
    · unfold nv; rw [if_neg h]; omega
  induction e with
  | zero =>
    have := key 0
    rw [off_zero] at this
    rw [en_zero (nv c)]
    omega
  | succ e ih =>
    have := key (e + 1)
    have h2 := off_add c (e + 1)
    rw [off_succ] at this h2
    rw [en_succ (nv c)]
    omega

include hs in
theorem np_le : np c ≤ 263 := by have := ve_le c 7; rw [hs] at this; unfold np; omega

include hs in
theorem np_pos : 0 < np c := by
  obtain ⟨e, he, h1, h2⟩ := exists_span c (x := 0) (by omega)
  have hc : 0 < c e := by have := off_add c e; omega
  have h3 := nv_eq c hc
  have h4 := off_add c e
  have h5 := le_en (nv c) e
  have h6 := en_mono (nv c) (show e ≤ 7 by omega)
  unfold np tf at *
  omega

/-- What a grid point's visit is, for a visit whose expert's span of visits is known. -/
theorem point {t e : Nat} (he : e < 8) (h1 : off (nv c) e ≤ ps c t) (h2 : ps c t < en (nv c) e) :
    ex c t = e ∧ tile c t = tf c e + (ps c t - off (nv c) e) := by
  have : ex c t = e := by unfold ex; rw [count_eq (nv c) he h1 h2]; omega
  exact ⟨this, by unfold tile; rw [this]⟩

include hs in
/-- Every grid point's visit: its expert has rows, and its tile is one that those rows meet. -/
theorem spec (t : Nat) : ∃ e, e < 8 ∧ ex c t = e ∧ 0 < c e ∧ off (nv c) e ≤ ps c t ∧ ps c t < en (nv c) e
    ∧ tile c t = tf c e + (ps c t - off (nv c) e) ∧ tile c t ≤ (en c e - 1) / 512 := by
  have hnp := np_pos c hs
  have hp : ps c t < en (nv c) 7 := by show ps c t < np c; unfold ps; omega
  obtain ⟨e, he, h1, h2⟩ := exists_span (nv c) hp
  have hc : 0 < c e := nv_pos c (by have := off_add (nv c) e; omega)
  obtain ⟨h3, h4⟩ := point c he h1 h2
  refine ⟨e, he, h3, hc, h1, h2, h4, ?_⟩
  have h5 := nv_eq c hc
  have h6 := off_add (nv c) e
  omega

include hs in
theorem tile_lt (t : Nat) : tile c t < 256 := by
  obtain ⟨e, he, -, -, -, -, -, h⟩ := spec c hs t
  have := en_mono c (show e ≤ 7 by omega)
  omega

include hs in
/-- The tiles are visited in order. -/
theorem tile_mono (t : Nat) : tile c t ≤ tile c (t + 1) := by
  obtain ⟨e, he, hx, hc, h1, h2, h3, h4⟩ := spec c hs t
  obtain ⟨e', he', hx', hc', h1', h2', h3', h4'⟩ := spec c hs (t + 1)
  have hps : ps c t ≤ ps c (t + 1) := by unfold ps; omega
  rcases Nat.lt_trichotomy e e' with h | h | h
  · have h5 := en_le_off c h
    have h6 : (en c e - 1) / 512 ≤ tf c e' := by unfold tf; exact Nat.div_le_div_right (by omega)
    omega
  · subst h; omega
  · have := en_le_off (nv c) h
    omega

/-- Past the last visit the tile stays. -/
theorem tile_tail {t : Nat} (h : np c ≤ t + 1) : tile c (t + 1) = tile c t := by
  have : ps c (t + 1) = ps c t := by unfold ps; omega
  unfold tile ex
  rw [this]

/-- A row of the expert's span is the expert's. -/
theorem owner_eq {R e : Nat} (he : e < 8) (h1 : off c e ≤ R) (h2 : R < en c e) : owner c R = e := count_eq c he h1 h2

include hs in
/-- Every row is met: by a visit of its tile by its expert. -/
theorem cover {R : Nat} (hR : R < 131072) : ∃ t, t < np c ∧ tile c t = R / 512 ∧ off c (ex c t) ≤ R ∧ R < en c (ex c t) := by
  obtain ⟨e, he, h1, h2⟩ := exists_span c (x := R) (by omega)
  have h6 := off_add c e
  have hc : 0 < c e := by omega
  have h5 := nv_eq c hc
  have h7 := off_add (nv c) e
  have h8 : tf c e ≤ R / 512 := by unfold tf; exact Nat.div_le_div_right h1
  have h9 : R / 512 ≤ (en c e - 1) / 512 := Nat.div_le_div_right (by omega)
  have h10 : en (nv c) e ≤ np c := en_mono (nv c) (show e ≤ 7 by omega)
  have hlt : off (nv c) e + (R / 512 - tf c e) < en (nv c) e := by omega
  have hps : ps c (off (nv c) e + (R / 512 - tf c e)) = off (nv c) e + (R / 512 - tf c e) := by unfold ps; omega
  obtain ⟨h3, h4⟩ := point c (t := off (nv c) e + (R / 512 - tf c e)) he (by omega) (by omega)
  exact ⟨off (nv c) e + (R / 512 - tf c e), by omega, by omega, by rw [h3]; exact h1, by rw [h3]; exact h2⟩

end Cert.Sched

end
-- ==== Proof.ExpertsCounts.lean ====
/- What the precondition `counted` says: the experts' counts are no words below zero and sum to the number of rows. -/
module
public import proofs.«01_k».proof.Proof.Gen.Pre_counted
public import proofs.«01_k».proof.Proof.Sched
public import Idealize.ShloMosaic.Lib.Routing.Ops
public import Idealize.ShloMosaic.Lib.WordCmp
public import Idealize.ShloMosaic.Lib.ReduceAll
public import Idealize.ShloMosaic.Lib.Pipeline.ValueKit

@[expose] public section
noncomputable section

open Idealize.ShloMosaic
namespace Cert.Exp.Counts
open Cert.Pre_counted Cert.Pre_counted.Gen

/-- The counts as natural numbers. -/
def nat (x : S8.Idx → BitVec 32) (i : ℕ) : ℕ := if h : i < 8 then (x (ValueIdx.ix1 (⟨i, h⟩ : Fin 8))).toNat else 0

/-- A count's word is its number. -/
theorem word (x : S8.Idx → BitVec 32) (i : Fin 8) : x (ValueIdx.ix1 i) = BitVec.ofNat 32 (nat x i.val) := by
  unfold nat
  rw [dif_pos i.isLt]
  exact (BitVec.eq_of_toNat_eq (by rw [BitVec.toNat_ofNat]; exact (Nat.mod_eq_of_lt (BitVec.isLt _)).symm))

/-- A word between `0` and `131072`, read with its sign, is a number not above `131072`. -/
theorem le_of_cmp (x : BitVec 32) (h0 : IntOp.cmpi .sge x 0#32 = 1#1) (h1 : IntOp.cmpi .sle x 131072#32 = 1#1) : x.toNat ≤ 131072 := by
  have hb : ∀ b : Bool, BitVec.ofBool b = 1#1 → b = true := by decide
  have a : (0#32).toInt ≤ x.toInt := of_decide_eq_true (hb _ h0)
  have b : x.toInt ≤ (131072#32).toInt := of_decide_eq_true (hb _ h1)
  have hc := BitVec.toInt_eq_toNat_cond x
  have e0 : (0#32).toInt = 0 := by decide
  have e1 : (131072#32).toInt = 131072 := by decide
  have := x.isLt
  split at hc <;> omega

/-- The precondition read: the counts sum to the number of rows. -/
theorem total {F : FTy → Type} [FloatOps F] (h : Vec F S131072x1024 .f32) (x : S8.Idx → BitVec 32) (w1 w3 : Vec F S8x1024x3584 .f32) (w2 : Vec F S8x3584x1024 .f32)
    (hp : fn (F := F) h x w1 w3 w2 = fun _ => 1#1) : Cert.Sched.en (nat x) 7 = 131072 := by
  have h0 := congrFun hp ix0
  obtain ⟨h1, h2⟩ := IntOp.andi_eq_one.1 h0
  have hs : Subsingleton S_.Idx := ⟨fun a b => funext fun d => d.elim0⟩
  have hle : ∀ i : Fin 8, nat x i.val ≤ 131072 := fun i => by
    have := IntOp.andi_eq_one.1 (Host.reduce_andi_all _ _ _ _ _ h1 (ValueIdx.ix1 i))
    unfold nat
    rw [dif_pos i.isLt]
    exact le_of_cmp _ this.1 this.2
  have h3 := StableHlo.Predicate.cmpi_eq_iff.1 h2
  have h4 := (Routing.reduce_sum (N := 8) x (nat x) (word x) reducesTo_S8_S_d0 h_S_).symm.trans h3
  have l0 := hle 0
  have l1 := hle 1
  have l2 := hle 2
  have l3 := hle 3
  have l4 := hle 4
  have l5 := hle 5
  have l6 := hle 6
  have l7 := hle 7
  have h5 := congrArg BitVec.toNat h4
  simp only [List.range, List.range.loop, List.map, List.sum_cons, List.sum_nil, BitVec.toNat_ofNat] at h5
  show ((List.range 8).map (nat x)).sum = 131072
  simp only [List.range, List.range.loop, List.map, List.sum_cons, List.sum_nil]
  change nat x 0 ≤ _ at l0
  change nat x 1 ≤ _ at l1
  change nat x 2 ≤ _ at l2
  change nat x 3 ≤ _ at l3
  change nat x 4 ≤ _ at l4
  change nat x 5 ≤ _ at l5
  change nat x 6 ≤ _ at l6
  change nat x 7 ≤ _ at l7
  have h6 : (BitVec.toNat (constantI S_ 32 131072#32 ix0)) = 131072 := rfl
  omega

end Cert.Exp.Counts
-- ==== Proof.ExpertsSwiglu.lean ====
/- The feed-forward of one row, as the kernel's block computes it, and the merge of a block's rows. -/
module

public import proofs.«01_k».proof.Proof.Dense
public import proofs.«01_k».proof.Proof.Gen.ExpertsIdeal.Skeleton
public import Idealize.ShloMosaic.Lib.WordCmp
public import Idealize.ShloMosaic.Lib.Pipeline.ValueKit
public import Idealize.ShloMosaic.Lib.Pointwise

@[expose] public section

set_option maxRecDepth 16384

noncomputable section

open Idealize.ShloMosaic Idealize.ShloMosaic.TcCoe
open scoped BigOperators

namespace Cert.Exp

open Cert.ExpertsIdeal Cert.ExpertsIdeal.Gen

/-- The feed-forward of one row: the gate of its two products, through the third matrix. -/
def mlp (x : Fin 1024 → EReal) (w1 w3 : Fin 1024 → Fin 3584 → EReal) (w2 : Fin 3584 → Fin 1024 → EReal) (j : Fin 1024) : EReal :=
  ∑ c, Cert.Proof.Dense.gate (∑ k, x k * w1 k c) (∑ k, x k * w3 k c) * w2 c j

/-- The kernel's block at row `r`, column `j`: the feed-forward of the row through the loaded matrices. -/
theorem pay1_at (v4 : Vec Ideal S512x1024 .f32) (v6 v9 : Vec Ideal S1x1024x3584 .bf16) (v16 : Vec Ideal S1x3584x1024 .bf16) (r : Fin 512) (j : Fin 1024) :
    k0_pay1 v4 v6 v9 v16 (ix2 r j) = mlp (fun k => v4 (ix2 r k)) (fun k c => v6 (ix3 0 k c)) (fun k c => v9 (ix3 0 k c)) (fun c j => v16 (ix3 0 c j)) j := by
  pointwise [k0_pay1]
  rfl

/-- The merge at row `r`: the new block's row where it lies between the two bounds, the old one elsewhere. -/
theorem pay2_at {F : FTy → Type} [FloatOps F] (a b : ℕ) (ha : a ≤ 512) (hb : b ≤ 512) (y p : Vec F S512x1024 .f32) (r : Fin 512) (j : Fin 1024) :
    k0_pay2 (F := F) (BitVec.ofNat 32 a : BitVec 32) (BitVec.ofNat 32 b : BitVec 32) y p (ix2 r j) = if a ≤ r.val ∧ r.val < b then y (ix2 r j) else p (ix2 r j) := by
  have hr := r.isLt
  pointwise [k0_pay2]
  rw [WordCmp.cmpi_sge_ofNat (by omega) (by omega), WordCmp.cmpi_slt_ofNat (by omega) (by omega)]
  by_cases h1 : a ≤ r.val <;> by_cases h2 : r.val < b <;> simp only [h1, h2, decide_true, decide_false, and_self, and_true, and_false, if_true, if_false] <;> rfl

end Cert.Exp
-- ==== Proof.ExpertsHost.lean ====
module

public import proofs.«01_k».proof.Proof.Gen.ExpertsIdeal.Launch
public import proofs.«01_k».proof.Proof.Sched
public import Idealize.ShloMosaic.Lib.Routing.Ops
public import Idealize.ShloMosaic.Lib.WordCmp

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The host operations before the call, one function per look-up -/

/-- The running sums of a vector of eight. -/
def hCum (x : S8.Idx → BitVec 32) : S8.Idx → BitVec 32 :=
  Host.reduceWindow IntOp.addi ![8] ![1] ![7] ![0] x (broadcastInDim S_ ![] bcast_S_S_ (constantI S_ 32 0#32)) reduceWindows_S8_S8_w8s1p7_0 h_S_
/-- A word, eight times. -/
def hB8 (k : BitVec 32) : S8.Idx → BitVec 32 := broadcastInDim S8 ![] bcast_S_S8 (constantI S_ 32 k)
/-- A word, once per visit. -/
def hB (k : BitVec 32) : S263.Idx → BitVec 32 := broadcastInDim S263 ![] bcast_S_S263 (constantI S_ 32 k)
/-- The quotient by 512 rounded down, elementwise. -/
def hDiv (x : S8.Idx → BitVec 32) : S8.Idx → BitVec 32 :=
  select (andi (cmpi .ne (signi x) (broadcastInDim S8 ![] bcast_S_S8 (signi (constantI S_ 32 512#32)))) (cmpi .ne (Host.remsi x (hB8 512#32)) (hB8 0#32)))
    (subi (Host.divsi x (hB8 512#32)) (hB8 1#32)) (Host.divsi x (hB8 512#32))
/-- Where each expert's rows begin. -/
def hOff (x : S8.Idx → BitVec 32) : S8.Idx → BitVec 32 := subi (hCum x) x
/-- The tile each expert's rows begin in. -/
def hTf (x : S8.Idx → BitVec 32) : S8.Idx → BitVec 32 := hDiv (hOff x)
/-- The tile each expert's last row lies in. -/
def hTl (x : S8.Idx → BitVec 32) : S8.Idx → BitVec 32 := hDiv (maxsi (subi (hCum x) (hB8 1#32)) (hOff x))
/-- How many tiles each expert visits. -/
def hNv (x : S8.Idx → BitVec 32) : S8.Idx → BitVec 32 := select (cmpi .sgt x (hB8 0#32)) (addi (subi (hTl x) (hTf x)) (hB8 1#32)) (hB8 0#32)
/-- The running sums of the numbers of visits. -/
def hVe (x : S8.Idx → BitVec 32) : S8.Idx → BitVec 32 := hCum (hNv x)
/-- The number of visits, as a scalar. -/
def hN0 (s : S8.Idx → BitVec 32) : S_.Idx → BitVec 32 := shapeCast S_ (extractStridedSlice S1 ![7] s slices_S8_S1_7) shapeCasts_S1_S_
/-- The visit each point makes. -/
def hP (s : S8.Idx → BitVec 32) : S263.Idx → BitVec 32 :=
  minsi (iotaInDim S263 32 0) (broadcastInDim S263 ![] bcast_S_S263 (maxsi (subi (hN0 s) (constantI S_ 32 1#32)) (constantI S_ 32 0#32)))
/-- The expert of each point. -/
def hE (s : S8.Idx → BitVec 32) : S263.Idx → BitVec 32 :=
  minsi (Host.reduce IntOp.addi (extui 32 (cmpi .sge (broadcastInDim S263x8 ![0, 1] bcast_S263x1_S263x8_0_1 (broadcastInDim S263x1 ![0] bcast_S263_S263x1_0 (hP s)))
    (broadcastInDim S263x8 ![0, 1] bcast_S1x8_S263x8_0_1 (broadcastInDim S1x8 ![1] bcast_S8_S1x8_1 s))) natLt_1_32) (constantI S_ 32 0#32) reducesTo_S263x8_S263_d1 h_S_) (hB 7#32)
/-- An expert's entry at each point. -/
def hTake (e : S263.Idx → BitVec 32) (y : S8.Idx → BitVec 32) : S263.Idx → BitVec 32 :=
  Host.gather gather_S8_S263x1_S263_n_0_n_n_0_1_1 y (broadcastInDim S263x1 ![0] bcast_S263_S263x1_0 (select (cmpi .slt e (hB 0#32)) (addi e (hB 8#32)) e))
/-- The tile of each point, from the tile each expert begins in, its number of visits and their running sums. -/
def hTileW (f n s : S8.Idx → BitVec 32) : S263.Idx → BitVec 32 :=
  addi (hTake (hE s) f) (subi (hP s) (subi (hTake (hE s) s) (hTake (hE s) n)))
/-- The tile of each point. -/
def hT (x : S8.Idx → BitVec 32) : S263.Idx → BitVec 32 := hTileW (hTf x) (hNv x) (hVe x)
/-- A row number of the array as one of the point's tile, kept between 0 and 512. -/
def hClip (t y : S263.Idx → BitVec 32) : S263.Idx → BitVec 32 := minsi (hB 512#32) (maxsi (hB 0#32) (subi y (muli t (hB 512#32))))
/-- The first row of each point. -/
def hL (x : S8.Idx → BitVec 32) : S263.Idx → BitVec 32 := hClip (hT x) (hTake (hE (hVe x)) (hOff x))
/-- The row after the last of each point. -/
def hH (x : S8.Idx → BitVec 32) : S263.Idx → BitVec 32 := hClip (hT x) (hTake (hE (hVe x)) (hCum x))
/-- One where a point is the first of its tile. -/
def hF (t : S263.Idx → BitVec 32) : S263.Idx → BitVec 32 :=
  concatenate S263 0 [⟨S1, broadcastInDim S1 ![] bcast_S_S1 (constantI S_ 32 1#32)⟩,
    ⟨S262, extui 32 (cmpi .ne (extractStridedSlice S262 ![1] t slices_S263_S262_1) (extractStridedSlice S262 ![0] t slices_S263_S262_0)) natLt_1_32⟩] concatenates_S1_S262_S263_d0
/-- The number of visits, as a table of one word. -/
def hN (x : S8.Idx → BitVec 32) : S1.Idx → BitVec 32 := shapeCast S1 (hN0 (hVe x)) shapeCasts_S_S1

end Cert.Exp

end
-- ==== Proof.ExpertsSched.lean ====
module

public import proofs.«01_k».proof.Proof.ExpertsHost
public import Idealize.ShloMosaic.Lib.Routing.OpsSearch

@[expose] public section

set_option maxRecDepth 16384
set_option Elab.async false

noncomputable section

namespace Cert.Exp

open Cert.ExpertsIdeal Cert.ExpertsIdeal.Gen
open Idealize.ShloMosaic Idealize.ShloMosaic.ValueIdx
open Idealize.ShloMosaic.Routing (shape0 shape1 shape2 cumsum1 reduce_count bc0 bcCol bcRows bcCols slice1 addi_ap subi_ap muli_ap iota1_ap
  maxsi_pred maxsi_zero_left ofNat32_sub slt_ofNat32 pyDiv_ap)
open Idealize.ShloMosaic.WordCmp
open Cert.Sched

/-! ## Words of naturals -/

/-- The signed maximum of two words of naturals below `2^31`. -/
theorem maxsi_of {a b : Nat} (ha : a < 2 ^ 31) (hb : b < 2 ^ 31) : IntOp.maxsi (BitVec.ofNat 32 a) (BitVec.ofNat 32 b) = BitVec.ofNat 32 (max a b) := by
  unfold IntOp.maxsi
  rw [slt_ofNat32 (by omega) (by omega)]
  split <;> rename_i h <;> simp only [decide_eq_true_eq] at h <;> congr 1 <;> omega

/-- The signed minimum of two words of naturals below `2^31`. -/
theorem minsi_of {a b : Nat} (ha : a < 2 ^ 31) (hb : b < 2 ^ 31) : IntOp.minsi (BitVec.ofNat 32 a) (BitVec.ofNat 32 b) = BitVec.ofNat 32 (min a b) := by
  unfold IntOp.minsi
  rw [slt_ofNat32 (by omega) (by omega)]
  split <;> rename_i h <;> simp only [decide_eq_true_eq] at h <;> congr 1 <;> omega

/-- The signed maximum of zero and a difference of words of naturals below `2^31` is the word of the truncated difference. -/
theorem maxsi_zero_sub {a b : Nat} (ha : a < 2 ^ 31) (hb : b < 2 ^ 31) :
    IntOp.maxsi 0#32 (BitVec.ofNat 32 b - BitVec.ofNat 32 a) = BitVec.ofNat 32 (b - a) := by
  by_cases h : a ≤ b
  · rw [ofNat32_sub h, maxsi_zero_left (by omega)]
  · have hi : (BitVec.ofNat 32 b - BitVec.ofNat 32 a).toInt < 0 := by
      rw [BitVec.toInt_eq_toNat_cond, BitVec.toNat_sub, BitVec.toNat_ofNat, BitVec.toNat_ofNat, Nat.mod_eq_of_lt (by omega), Nat.mod_eq_of_lt (by omega)]
      split <;> omega
    have h0 : b - a = 0 := by omega
    rw [h0]
    unfold IntOp.maxsi
    have e : BitVec.slt (BitVec.ofNat 32 b - BitVec.ofNat 32 a) 0#32 = true := by
      rw [BitVec.slt_eq_decide]; simpa using hi
    exact if_pos e

/-- The signed maximum of a word less one and another word, over naturals. -/
theorem maxsi_sub_one {a b : Nat} (ha : a < 2 ^ 31) (hb : b < 2 ^ 31) :
    IntOp.maxsi (BitVec.ofNat 32 a - 1#32) (BitVec.ofNat 32 b) = BitVec.ofNat 32 (max (a - 1) b) := by
  rcases Nat.eq_zero_or_pos a with h | h
  · subst h
    have e : BitVec.slt (BitVec.ofNat 32 0 - 1#32) (BitVec.ofNat 32 b) = true := by
      rw [BitVec.slt_eq_decide, WordCmp.toInt_ofNat_of_lt (w := 32) (a := b) (by omega)]
      have : (BitVec.ofNat 32 0 - 1#32).toInt = -1 := by decide
      rw [this]; exact decide_eq_true (by omega)
    have e' : BitVec.slt (BitVec.ofNat 32 b) (BitVec.ofNat 32 0 - 1#32) = false := by
      rw [BitVec.slt_eq_decide, WordCmp.toInt_ofNat_of_lt (w := 32) (a := b) (by omega)]
      have : (BitVec.ofNat 32 0 - 1#32).toInt = -1 := by decide
      rw [this]; exact decide_eq_false (by omega)
    unfold IntOp.maxsi
    rw [e']
    simp
  · rw [show (1#32 : BitVec 32) = BitVec.ofNat 32 1 from rfl, ofNat32_sub h, maxsi_of (by omega) hb]

/-! ## The look-ups as words of the schedule -/

/-- The running sums. -/
theorem hCum_at (x : S8.Idx → BitVec 32) (f : Nat → Nat) (hx : ∀ i : Fin 8, x (ix1 i) = BitVec.ofNat 32 (f i.val)) (i : Fin 8) :
    hCum x (ix1 i) = BitVec.ofNat 32 (en f i.val) :=
  cumsum1 (N := 8) (Nm1 := 7) rfl x f hx _ rfl _ _ i

/-- A quotient by 512. -/
theorem hDiv_at (x : S8.Idx → BitVec 32) (i : S8.Idx) {a : Nat} (h : x i = BitVec.ofNat 32 a) (ha : a < 2 ^ 31) : hDiv x i = BitVec.ofNat 32 (a / 512) :=
  pyDiv_ap bcast_S_S8 x (constantI S_ 32 512#32) i h rfl ha (by decide) (by decide)

variable (x : S8.Idx → BitVec 32) (c : Nat → Nat) (hx : ∀ i : Fin 8, x (ix1 i) = BitVec.ofNat 32 (c i.val)) (hs : en c 7 = 131072)

include hs in
theorem en_bound (i : Fin 8) : en c i.val ≤ 131072 := by have := en_mono c (show i.val ≤ 7 by omega); omega

include hs in
theorem off_bound (i : Fin 8) : off c i.val ≤ 131072 := by have := en_bound c hs i; have := off_add c i.val; omega

include hs in
theorem nv_bound (i : Fin 8) : en (nv c) i.val ≤ 263 := by
  have := en_mono (nv c) (show i.val ≤ 7 by omega); have := np_le c hs; unfold np at this; omega

include hx in
/-- Where each expert's rows begin. -/
theorem hOff_at (i : Fin 8) : hOff x (ix1 i) = BitVec.ofNat 32 (off c i.val) := by
  show hCum x (ix1 i) - x (ix1 i) = _
  rw [hCum_at x c hx, hx, ofNat32_sub (le_en c _)]
  rfl

include hx hs in
/-- The tile each expert's rows begin in. -/
theorem hTf_at (i : Fin 8) : hTf x (ix1 i) = BitVec.ofNat 32 (tf c i.val) :=
  hDiv_at _ _ (hOff_at x c hx i) (by have := off_bound c hs i; omega)

include hx hs in
/-- The tile each expert's last row lies in. -/
theorem hTl_at (i : Fin 8) : hTl x (ix1 i) = BitVec.ofNat 32 (tl c i.val) := by
  have h1 := off_bound c hs i
  have h2 := en_bound c hs i
  refine hDiv_at _ _ (a := max (en c i.val - 1) (off c i.val)) ?_ (by omega)
  show IntOp.maxsi (hCum x (ix1 i) - 1#32) (hOff x (ix1 i)) = _
  rw [hCum_at x c hx, hOff_at x c hx, maxsi_sub_one (by omega) (by omega)]

include hx hs in
/-- How many tiles each expert visits. -/
theorem hNv_at (i : Fin 8) : hNv x (ix1 i) = BitVec.ofNat 32 (nv c i.val) := by
  have h1 := en_bound c hs i
  have h2 := le_en c i.val
  show Scalar.select (IntOp.cmpi .sgt (x (ix1 i)) (BitVec.ofNat 32 0)) (hTl x (ix1 i) - hTf x (ix1 i) + BitVec.ofNat 32 1) (BitVec.ofNat 32 0) = _
  rw [hx, hTl_at x c hx hs, hTf_at x c hx hs, cmpi_sgt_ofNat (by omega) (by omega), select_decide,
    ofNat32_sub (show tf c i.val ≤ tl c i.val from Nat.div_le_div_right (le_max_right _ _)), ← BitVec.ofNat_add]
  unfold nv
  split <;> rfl

include hx hs in
/-- The running sums of the numbers of visits. -/
theorem hVe_at (i : Fin 8) : hVe x (ix1 i) = BitVec.ofNat 32 (en (nv c) i.val) := hCum_at _ _ (hNv_at x c hx hs) i

include hx hs in
/-- The number of visits. -/
theorem hN0_at : hN0 (hVe x) ix0 = BitVec.ofNat 32 (np c) := by
  unfold hN0
  rw [shapeCast_apply _ _ ix0 (ix1 (0 : Fin 1)) (by decide)]
  exact (slice1 7 (hVe x) _ (0 : Fin 1) (by decide)).trans (hVe_at x c hx hs 7)

include hx hs in
/-- The number of visits, as the table's word. -/
theorem hN_at (i : Fin 1) : hN x (ix1 i) = BitVec.ofNat 32 (np c) := by
  obtain rfl : i = 0 := Subsingleton.elim _ _
  unfold hN
  rw [shapeCast_apply _ _ (ix1 (0 : Fin 1)) ix0 (by decide)]
  exact hN0_at x c hx hs

include hx hs in
/-- The visit each point makes. -/
theorem hP_at (j : Fin 263) : hP (hVe x) (ix1 j) = BitVec.ofNat 32 (ps c j.val) := by
  have h := np_le c hs
  unfold hP
  show IntOp.minsi (BitVec.ofNat 32 j.val) (broadcastInDim S263 ![] bcast_S_S263 (maxsi (subi (hN0 (hVe x)) (constantI S_ 32 1#32)) (constantI S_ 32 0#32)) (ix1 j)) = _
  rw [bc0]
  show IntOp.minsi (BitVec.ofNat 32 j.val) (IntOp.maxsi (hN0 (hVe x) ix0 - 1#32) 0#32) = _
  rw [hN0_at x c hx hs, maxsi_pred (by omega), minsi_of (by omega) (by omega)]
  rfl

theorem ps_lt (j : Fin 263) : ps c j.val < 263 := by unfold ps; omega

include hx hs in
/-- The expert of each point. -/
theorem hE_at (j : Fin 263) : hE (hVe x) (ix1 j) = BitVec.ofNat 32 (ex c j.val) := by
  have hp := ps_lt c j
  have hc := Nat.count_le (p := fun e => en (nv c) e ≤ ps c j.val) (n := 8)
  have h : Host.reduce IntOp.addi (extui 32 (cmpi .sge (broadcastInDim S263x8 ![0, 1] bcast_S263x1_S263x8_0_1 (broadcastInDim S263x1 ![0] bcast_S263_S263x1_0 (hP (hVe x))))
      (broadcastInDim S263x8 ![0, 1] bcast_S1x8_S263x8_0_1 (broadcastInDim S1x8 ![1] bcast_S8_S1x8_1 (hVe x)))) natLt_1_32) (constantI S_ 32 0#32) reducesTo_S263x8_S263_d1 h_S_ (ix1 j)
      = BitVec.ofNat 32 (Nat.count (fun e => en (nv c) e ≤ ps c j.val) 8) := by
    refine reduce_count (n := 263) (m := 8) (by decide) _ _ _ _ j _ fun q => ?_
    have h1 := bcRows bcast_S263_S263x1_0 bcast_S263x1_S263x8_0_1 (hP (hVe x)) j q
    have h2 := bcCols (n := 263) bcast_S8_S1x8_1 bcast_S1x8_S263x8_0_1 (hVe x) j q
    have h3 := nv_bound c hs q
    refine Iff.trans (b := IntOp.cmpi .sge (BitVec.ofNat 32 (ps c j.val)) (BitVec.ofNat 32 (en (nv c) q.val)) = 1#1) ?_ (cmpi_sge_ofNat_eq_one_iff (by omega) (by omega))
    rw [← hP_at x c hx hs j, ← hVe_at x c hx hs q, ← h1, ← h2]
    rfl
  unfold hE
  refine (congrArg (fun z => IntOp.minsi z (BitVec.ofNat 32 7)) h).trans ?_
  rw [minsi_of (by omega) (by omega)]
  rfl

/-- An entry of a vector of eight, by a place below eight. -/
theorem hTake_at (e : S263.Idx → BitVec 32) (y : S8.Idx → BitVec 32) (j : Fin 263) {k : Nat} (hk : k < 8) (he : e (ix1 j) = BitVec.ofNat 32 k) :
    hTake e y (ix1 j) = y (ix1 ⟨k, hk⟩) := by
  unfold hTake
  refine Routing.take_ap _ rfl rfl rfl rfl y _ j hk (by omega) ((bcCol bcast_S263_S263x1_0 _ j).trans ?_)
  show Scalar.select (IntOp.cmpi .slt (e (ix1 j)) (BitVec.ofNat 32 0)) _ (e (ix1 j)) = _
  rw [he, cmpi_slt_ofNat (by omega) (by omega), select_decide, if_neg (by omega)]

include hx hs in
/-- The tile of each point. -/
theorem hT_at (j : Fin 263) : hT x (ix1 j) = BitVec.ofNat 32 (tile c j.val) := by
  have hk := ex_lt c j.val
  have hE := hE_at x c hx hs j
  obtain ⟨e, he, h1, h2, h3, h4, h5⟩ := spec c hs j.val
  show hTake (Cert.Exp.hE (hVe x)) (hTf x) (ix1 j) + (hP (hVe x) (ix1 j) - (hTake (Cert.Exp.hE (hVe x)) (hVe x) (ix1 j) - hTake (Cert.Exp.hE (hVe x)) (hNv x) (ix1 j))) = _
  rw [hTake_at _ _ j hk hE, hTake_at _ _ j hk hE, hTake_at _ _ j hk hE, hTf_at x c hx hs, hVe_at x c hx hs, hNv_at x c hx hs, hP_at x c hx hs,
    ofNat32_sub (le_en (nv c) _)]
  change _ + (_ - BitVec.ofNat 32 (off (nv c) (ex c j.val))) = _
  rw [ofNat32_sub (by rw [h1]; exact h3), ← BitVec.ofNat_add]
  rfl

/-- A row number less the tile's first row, kept between 0 and 512. -/
theorem hClip_at (t y : S263.Idx → BitVec 32) (j : Fin 263) {a b : Nat} (ht : t (ix1 j) = BitVec.ofNat 32 a) (hy : y (ix1 j) = BitVec.ofNat 32 b)
    (ha : a < 256) (hb : b ≤ 131072) : hClip t y (ix1 j) = BitVec.ofNat 32 (min 512 (b - a * 512)) := by
  show IntOp.minsi (BitVec.ofNat 32 512) (IntOp.maxsi 0#32 (y (ix1 j) - IntOp.muli (t (ix1 j)) (BitVec.ofNat 32 512))) = _
  rw [ht, hy, muli_ofNat, maxsi_zero_sub (by omega) (by omega), minsi_of (by omega) (by omega)]

include hx hs in
/-- The first row of each point. -/
theorem hL_at (j : Fin 263) : hL x (ix1 j) = BitVec.ofNat 32 (min 512 (off c (ex c j.val) - tile c j.val * 512)) :=
  hClip_at _ _ j (hT_at x c hx hs j) ((hTake_at _ _ j (ex_lt c _) (hE_at x c hx hs j)).trans (hOff_at x c hx ⟨ex c j.val, ex_lt c _⟩)) (tile_lt c hs _)
    (off_bound c hs ⟨ex c j.val, ex_lt c _⟩)

include hx hs in
/-- The row after the last of each point. -/
theorem hH_at (j : Fin 263) : hH x (ix1 j) = BitVec.ofNat 32 (min 512 (en c (ex c j.val) - tile c j.val * 512)) :=
  hClip_at _ _ j (hT_at x c hx hs j) ((hTake_at _ _ j (ex_lt c _) (hE_at x c hx hs j)).trans (hCum_at x c hx ⟨ex c j.val, ex_lt c _⟩)) (tile_lt c hs _)
    (en_bound c hs ⟨ex c j.val, ex_lt c _⟩)

/-- The first point is the first of its tile. -/
theorem hF_zero (t : S263.Idx → BitVec 32) : hF t (ix1 (0 : Fin 263)) = 1#32 := by
  unfold hF
  rw [concatenate_pair_apply_left (t := S263) (s₁ := S1) (s₂ := S262) 0 _ _ _ (ix1 (0 : Fin 263)) rfl (ix1 (0 : Fin 1)) (fun b => by match b with | ⟨0, _⟩ => rfl)]
  rfl

/-- A later point is the first of its tile when the point before has another. -/
theorem hF_succ (t : S263.Idx → BitVec 32) (j : Nat) (h : j + 1 < 263) :
    hF t (ix1 ⟨j + 1, h⟩) = if t (ix1 ⟨j + 1, h⟩) = t (ix1 ⟨j, by omega⟩) then 0#32 else 1#32 := by
  unfold hF
  rw [concatenate_pair_apply_right (t := S263) (s₁ := S1) (s₂ := S262) 0 _ _ _ (ix1 (⟨j + 1, h⟩ : Fin 263)) rfl rfl (ix1 (⟨j, by omega⟩ : Fin 262))
    (fun b hb => by match b with | ⟨0, _⟩ => exact absurd rfl hb) rfl]
  show (IntOp.cmpi .ne (extractStridedSlice S262 ![1] t slices_S263_S262_1 (ix1 (⟨j, by omega⟩ : Fin 262)))
    (extractStridedSlice S262 ![0] t slices_S263_S262_0 (ix1 (⟨j, by omega⟩ : Fin 262)))).setWidth 32 = _
  rw [slice1 1 t _ (⟨j, by omega⟩ : Fin 262) (by show 1 + j < 263; omega), slice1 0 t _ (⟨j, by omega⟩ : Fin 262) (by show 0 + j < 263; omega), cmpi_ne_eq]
  have e1 : (⟨1 + j, by omega⟩ : Fin 263) = ⟨j + 1, h⟩ := Fin.ext (Nat.add_comm 1 j)
  have e0 : (⟨0 + j, by omega⟩ : Fin 263) = ⟨j, by omega⟩ := Fin.ext (Nat.zero_add j)
  show (BitVec.ofBool (decide (t (ix1 ⟨1 + j, _⟩) ≠ t (ix1 ⟨0 + j, _⟩)))).setWidth 32 = _
  rw [e1, e0]
  by_cases hh : t (ix1 ⟨j + 1, h⟩) = t (ix1 ⟨j, by omega⟩)
  · rw [if_pos hh]; simp [hh]
  · rw [if_neg hh]; simp [hh]

end Cert.Exp

end
-- ==== Proof.ExpertsRef.lean ====
/- The reference of the experts' call, read at one row and column. -/
module

public import proofs.«01_k».proof.Proof.ExpertsSwiglu
public import proofs.«01_k».proof.Proof.ExpertsSched
public import proofs.«01_k».proof.Proof.Gen.ExpertsRefIdeal.Run
public import proofs.«01_k».proof.Proof.Gen.ExpertsRefIdeal.Read
public import Idealize.ShloMosaic.Lib.Routing.OpsSearch

@[expose] public section

set_option maxRecDepth 16384

noncomputable section

open Idealize.ShloMosaic Idealize.ShloMosaic.TcCoe Idealize.SL.Sem
open Idealize.ShloMosaic.Routing (reduce_count bcRows bcCols)
open Idealize.ShloMosaic.WordCmp
open scoped BigOperators

namespace Cert.ExpertsRefIdeal.Hand

open Cert.ExpertsRefIdeal Cert.ExpertsRefIdeal.Gen Cert.ExpertsRefIdeal.Read Cert.Exp Cert.Sched

variable (x : S8.Idx → BitVec 32) (c : ℕ → ℕ) (hx : ∀ i : Fin 8, x (ValueIdx.ix1 i) = BitVec.ofNat 32 (c i.val)) (hs : en c 7 = 131072)

include hx hs in
/-- The expert of a row, as the reference counts it: the one that owns the row. -/
theorem v8_at (R : Fin 131072) : val_main_v8 (F := Ideal) x (ValueIdx.ix1 R) = BitVec.ofNat 32 (owner c R.val) := by
  unfold val_main_v8
  refine reduce_count (n := 131072) (m := 8) (by decide) _ _ _ _ R _ fun q => ?_
  have h1 := bcRows bcast_S131072_S131072x1_0 bcast_S131072x1_S131072x8_0_1 (val_main_v0 (F := Ideal)) R q
  have h2 := bcCols (n := 131072) bcast_S8_S1x8_1 bcast_S1x8_S131072x8_0_1 (val_main_v2 (F := Ideal) x) R q
  have h3 := en_bound c hs q
  have h4 := hCum_at x c hx q
  have hR := R.isLt
  refine Iff.trans (b := IntOp.cmpi .sge (BitVec.ofNat 32 R.val) (BitVec.ofNat 32 (en c q.val)) = 1#1) ?_ (cmpi_sge_ofNat_eq_one_iff (by omega) (by omega))
  rw [← h4]
  exact iff_of_eq (congrArg (· = 1#1) ((congrArg₂ (IntOp.cmpi .sge) h1 h2)))

include hx hs in
/-- The share of expert `e` in a row: one for the expert that owns it, zero for every other. -/
theorem v9_at (R : Fin 131072) (e : Fin 8) : val_main_v9 (F := Ideal) x (ix2 R e) = if owner c R.val = e.val then (1 : EReal) else 0 := by
  have h1 := v8_at x c hx hs R
  have hc := Nat.count_le (p := fun e => en c e ≤ R.val) (n := 8)
  have hw : owner c R.val ≤ 8 := hc
  have he := e.isLt
  rw [val_main_v9_apply, val_main_call1_v4_apply, val_main_call1_v2_apply, val_main_call1_v0_apply, val_main_call1_v3_apply, val_main_call1_v1_apply]
  have hi : idx_main_call1_v0 (idx_main_call1_v2 (ix2 R e)) = ValueIdx.ix1 R := funext fun a => match a with | ⟨0, _⟩ => rfl
  have hj : (idx_main_call1_v3 (ix2 R e) 1).val = e.val := rfl
  rw [hi, h1, hj]
  rw [cmpi_eq_ofNat (by omega) (by omega)]
  by_cases h : owner c R.val = e.val
  · rw [if_pos h, decide_eq_true h]; simp [FloatOps.uitofp]
  · rw [if_neg h, decide_eq_false h]; simp [FloatOps.uitofp]

/-- What the reference adds for the expert at offset `e`: its share of each row, times the row's feed-forward through its matrices. -/
def term (h : FVec Ideal S131072x1024 .f32) (s : FVec Ideal S131072x8 .f32) (w1 w3 : FVec Ideal S8x1024x3584 .f32) (w2 : FVec Ideal S8x3584x1024 .f32) (e : ℕ)
    (h1 : S131072x8.Slices ![0, e] S131072x1) (h2 : S8x1024x3584.Slices ![e, 0, 0] S1x1024x3584) (h3 : S8x3584x1024.Slices ![e, 0, 0] S1x3584x1024) : FVec Ideal S131072x1024 .f32 :=
  let A : FVec Ideal S131072x3584 .f32 := Host.dotGeneral dot_S131072x1024_S1024x3584_S131072x3584_1_0_0_1_n_n none h (shapeCast _ (extractStridedSlice S1x1024x3584 ![e, 0, 0] w1 h2) shapeCasts_S1x1024x3584_S1024x3584)
  let B : FVec Ideal S131072x3584 .f32 := Host.dotGeneral dot_S131072x1024_S1024x3584_S131072x3584_1_0_0_1_n_n none h (shapeCast _ (extractStridedSlice S1x1024x3584 ![e, 0, 0] w3 h2) shapeCasts_S1x1024x3584_S1024x3584)
  mulf (broadcastInDim S131072x1024 ![0, 1] bcast_S131072x1_S131072x1024_0_1 (extractStridedSlice S131072x1 ![0, e] s h1))
    (Host.dotGeneral dot_S131072x3584_S3584x1024_S131072x1024_1_0_0_1_n_n none (mulf (mulf A (Host.divf (val_main_call2_v4 (F := Ideal)) (addf (val_main_call2_v2 (F := Ideal)) (Host.exp (Host.negf A))))) B)
      (shapeCast _ (extractStridedSlice S1x3584x1024 ![e, 0, 0] w2 h3) shapeCasts_S1x3584x1024_S3584x1024))

/-- The term of an expert at a row and column. -/
theorem term_at (h : FVec Ideal S131072x1024 .f32) (s : FVec Ideal S131072x8 .f32) (w1 w3 : FVec Ideal S8x1024x3584 .f32) (w2 : FVec Ideal S8x3584x1024 .f32) (e : Fin 8)
    (h1) (h2) (h3) (R : Fin 131072) (j : Fin 1024) :
    term h s w1 w3 w2 e.val h1 h2 h3 (ix2 R j)
      = s (ix2 R e) * mlp (fun k => h (ix2 R k)) (fun k f => w1 (ix3 e k f)) (fun k f => w3 (ix3 e k f)) (fun f j => w2 (ix3 e f j)) j := by
  pointwise [term, val_main_call2_v4, val_main_call2_v2, val_main_call2_cst, val_main_call2_cst_0]
  rfl

/-- A sum of eight terms, each with its share, is the term of the one whose share is one. -/
theorem pick (o : ℕ) (f : Fin 8 → EReal) (e : Fin 8) (h : o = e.val) :
    0 + (if o = (0 : Fin 8).val then (1 : EReal) else 0) * f 0 + (if o = (1 : Fin 8).val then (1 : EReal) else 0) * f 1
      + (if o = (2 : Fin 8).val then (1 : EReal) else 0) * f 2 + (if o = (3 : Fin 8).val then (1 : EReal) else 0) * f 3
      + (if o = (4 : Fin 8).val then (1 : EReal) else 0) * f 4 + (if o = (5 : Fin 8).val then (1 : EReal) else 0) * f 5
      + (if o = (6 : Fin 8).val then (1 : EReal) else 0) * f 6 + (if o = (7 : Fin 8).val then (1 : EReal) else 0) * f 7 = f e := by
  subst h
  match e with
  | 0 | 1 | 2 | 3 | 4 | 5 | 6 | 7 => simp

/-- The reference's result: its zero array and the eight experts' terms, added in order. -/
theorem v130_eq (h : FVec Ideal S131072x1024 .f32) (w1 w3 : FVec Ideal S8x1024x3584 .f32) (w2 : FVec Ideal S8x3584x1024 .f32) :
    val_main_v130 (F := Ideal) h x w1 w3 w2 = addf (addf (addf (addf (addf (addf (addf (addf (val_main_v10 (F := Ideal)) (term h (val_main_v9 (F := Ideal) x) w1 w3 w2 (0 : Fin 8).val slices_S131072x8_S131072x1_0_0 slices_S8x1024x3584_S1x1024x3584_0_0_0 slices_S8x3584x1024_S1x3584x1024_0_0_0)) (term h (val_main_v9 (F := Ideal) x) w1 w3 w2 (1 : Fin 8).val slices_S131072x8_S131072x1_0_1 slices_S8x1024x3584_S1x1024x3584_1_0_0 slices_S8x3584x1024_S1x3584x1024_1_0_0)) (term h (val_main_v9 (F := Ideal) x) w1 w3 w2 (2 : Fin 8).val slices_S131072x8_S131072x1_0_2 slices_S8x1024x3584_S1x1024x3584_2_0_0 slices_S8x3584x1024_S1x3584x1024_2_0_0)) (term h (val_main_v9 (F := Ideal) x) w1 w3 w2 (3 : Fin 8).val slices_S131072x8_S131072x1_0_3 slices_S8x1024x3584_S1x1024x3584_3_0_0 slices_S8x3584x1024_S1x3584x1024_3_0_0)) (term h (val_main_v9 (F := Ideal) x) w1 w3 w2 (4 : Fin 8).val slices_S131072x8_S131072x1_0_4 slices_S8x1024x3584_S1x1024x3584_4_0_0 slices_S8x3584x1024_S1x3584x1024_4_0_0)) (term h (val_main_v9 (F := Ideal) x) w1 w3 w2 (5 : Fin 8).val slices_S131072x8_S131072x1_0_5 slices_S8x1024x3584_S1x1024x3584_5_0_0 slices_S8x3584x1024_S1x3584x1024_5_0_0)) (term h (val_main_v9 (F := Ideal) x) w1 w3 w2 (6 : Fin 8).val slices_S131072x8_S131072x1_0_6 slices_S8x1024x3584_S1x1024x3584_6_0_0 slices_S8x3584x1024_S1x3584x1024_6_0_0)) (term h (val_main_v9 (F := Ideal) x) w1 w3 w2 (7 : Fin 8).val slices_S131072x8_S131072x1_0_7 slices_S8x1024x3584_S1x1024x3584_7_0_0 slices_S8x3584x1024_S1x3584x1024_7_0_0) := rfl

include hx hs in
/-- The reference's result at a row and column: the row's feed-forward through the matrices of the expert that owns the row. -/
theorem ref_at (h : FVec Ideal S131072x1024 .f32) (w1 w3 : FVec Ideal S8x1024x3584 .f32) (w2 : FVec Ideal S8x3584x1024 .f32) (R : Fin 131072) (j : Fin 1024)
    (e : Fin 8) (he : owner c R.val = e.val) :
    val_main_v130 (F := Ideal) h x w1 w3 w2 (ix2 R j)
      = mlp (fun k => h (ix2 R k)) (fun k f => w1 (ix3 e k f)) (fun k f => w3 (ix3 e k f)) (fun f j => w2 (ix3 e f j)) j := by
  have z : val_main_v10 (F := Ideal) (ix2 R j) = 0 := by
    rw [val_main_v10_apply, val_main_cst_apply]; exact Ideal.ofBits_zero_f32
  rw [v130_eq]
  simp only [ValueIdx.addf_apply, term_at, v9_at x c hx hs, z]
  exact pick _ (fun e => mlp (fun k => h (ix2 R k)) (fun k f => w1 (ix3 e k f)) (fun k f => w3 (ix3 e k f)) (fun f j => w2 (ix3 e f j)) j) e he

end Cert.ExpertsRefIdeal.Hand
-- ==== Proof.ExpertsBody.lean ====
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.Pipeline.FrameBody
public import Idealize.ShloMosaic.Lib.Pipeline.TableIdle
public import Idealize.ShloMosaic.Lib.Tactic
public import Idealize.ShloMosaic.Lib.Ring
public import Idealize.ShloMosaic.Lib.Pipeline.ValueKit

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

/-- The logical model the runs are stated in. -/
abbrev Mod (F : FTy → Type) := MT nD τ sig Unit (Elt F) ℕ (UR sig nD τ) ℕ

/-! ## The six tables and the scratch as the body is given them -/

abbrev tb0 : Memref sig .tc .smem S263 .i32 := Memref.whole main_v29
abbrev tb1 : Memref sig .tc .smem S263 .i32 := Memref.whole main_v53
abbrev tb2 : Memref sig .tc .smem S263 .i32 := Memref.whole main_v64
abbrev tb3 : Memref sig .tc .smem S263 .i32 := Memref.whole main_v75
abbrev tb4 : Memref sig .tc .smem S263 .i32 := Memref.whole main_v81
abbrev tb5 : Memref sig .tc .smem S1 .i32 := Memref.whole main_v82
abbrev scr : Memref sig .tc .vmem S512x1024 .f32 := Memref.whole cc0_scratch0

set_option backward.proofsInPublic true in
set_option maxHeartbeats 8000000 in
/-- On the first visit of a tile the body leaves in the output staging buffer and in the scratch what it computes from the four input blocks. -/
noncomputable def runA (c : Dev nD) (i : grid0.Coords) (arg8 : Memref sig .tc .vmem S512x1024 .f32) (harg8 : arg8.IsWhole) (arg9 : Memref sig .tc .vmem S1x1024x3584 .bf16) (harg9 : arg9.IsWhole) (arg10 : Memref sig .tc .vmem S1x1024x3584 .bf16) (harg10 : arg10.IsWhole) (arg11 : Memref sig .tc .vmem S1x3584x1024 .bf16) (harg11 : arg11.IsWhole) (arg12 : Memref sig .tc .vmem S512x1024 .f32) (harg12 : arg12.IsWhole) (T0 : S263.Idx → Elt F .i32) (T1 : S263.Idx → Elt F .i32) (T2 : S263.Idx → Elt F .i32) (T3 : S263.Idx → Elt F .i32) (T4 : S263.Idx → Elt F .i32) (T5 : S1.Idx → Elt F .i32)
    (x0 : S512x1024.Idx → Elt F .f32) (x1 : S1x1024x3584.Idx → Elt F .bf16) (x2 : S1x1024x3584.Idx → Elt F .bf16) (x3 : S1x3584x1024.Idx → Elt F .bf16) (x4 : S512x1024.Idx → Elt F .f32)
    (h1 : k0_cond1 i (View.readAt (Elt F) tb5.view (Rect.unit (s := S1) ![0] S1.size inb_S1_S1_0).toLoadRect T5 (Shape.Idx.first (numel1_S1.symm ▸ Nat.one_pos))) = 1#1) (h2 : k0_cond2 i (View.readAt (Elt F) tb4.view (Rect.unit (s := S263) (k0_off2 i) S1.size (k0_off2_inb i)).toLoadRect T4 (Shape.Idx.first (numel1_S1.symm ▸ Nat.one_pos))) = 1#1) (h3 : ¬ k0_cond3 i (View.readAt (Elt F) tb4.view (Rect.unit (s := S263) (k0_off3 i) S1.size (k0_off3_inb i)).toLoadRect T4 (Shape.Idx.first (numel1_S1.symm ▸ Nat.one_pos))) = 1#1) :
    Σ' (out0 : List (View.Piece (Elt F) S512x1024 .f32)), { out1 : Buf (Elt F) ((c : Thread nD τ).loc cc0_scratch0) //
      ∀ (xa0 : Buf (Elt F) ((c : Thread nD τ).loc cc0_scratch0)) (K : PUnit → sProp (Mod F)),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (arg11.view.loc (c : Thread nD τ) ↦[arg11.view.set]{fullShare} arg11.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (tb5.view.loc (c : Thread nD τ) ↦{fullShare.right} T5)
          ∗ (arg12.view.loc (c : Thread nD τ) ↦[arg12.view.set]{fullShare} arg12.view.rep x4)
          ∗ (scr.view.loc (c : Thread nD τ) ↦{fullShare} xa0)
          ∗ (iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (arg11.view.loc (c : Thread nD τ) ↦[arg11.view.set]{fullShare} arg11.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (tb5.view.loc (c : Thread nD τ) ↦{fullShare.right} T5)
              ∗ (∃ f, arg12.view.loc (c : Thread nD τ) ↦[arg12.view.set]{fullShare} arg12.view.writes (Elt F) f out0)
              ∗ (scr.view.loc (c : Thread nD τ) ↦{fullShare} out1)) -∗ K ⟨⟩))
          ⊢ wp frame (wpE (defs₀ (F := F)) Variants.none c none) Set.univ (cc0_ffn i tb0 (Memref.isWhole_whole _) tb1 (Memref.isWhole_whole _) tb2 (Memref.isWhole_whole _) tb3 (Memref.isWhole_whole _) tb4 (Memref.isWhole_whole _) tb5 (Memref.isWhole_whole _) arg8 harg8 arg9 harg9 arg10 harg10 arg11 harg11 arg12 harg12 scr (Memref.isWhole_whole _)) K } :=
  ⟨_, _, fun xa0 K => by
    rw [cc0_ffn_eq_skeleton]; unfold cc0_ffn_skel
    iintro ⟨H0, H1, H2, H3, HT0, HT1, HT2, HT3, HT4, HT5, HO4, HS0, Hk⟩
    have hS0 : scr.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    have hT5 : tb5.IsWhole := Memref.isWhole_whole _
    sl_exec! (disch := first | (guard_target = (k0_cond1 _ _ = _); exact h1) | (guard_target = (k0_cond2 _ _ = _); exact h2) | (guard_target = ¬ (k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HT5]; · iexact HT5
    isplitl [HO4]; · iexists _; iexact HO4
    iexact HS0⟩

set_option backward.proofsInPublic true in
set_option maxHeartbeats 8000000 in
/-- On a later visit of a tile the body overwrites in the output staging buffer only the rows between the two words of the tables. -/
noncomputable def runB (c : Dev nD) (i : grid0.Coords) (arg8 : Memref sig .tc .vmem S512x1024 .f32) (harg8 : arg8.IsWhole) (arg9 : Memref sig .tc .vmem S1x1024x3584 .bf16) (harg9 : arg9.IsWhole) (arg10 : Memref sig .tc .vmem S1x1024x3584 .bf16) (harg10 : arg10.IsWhole) (arg11 : Memref sig .tc .vmem S1x3584x1024 .bf16) (harg11 : arg11.IsWhole) (arg12 : Memref sig .tc .vmem S512x1024 .f32) (harg12 : arg12.IsWhole) (T0 : S263.Idx → Elt F .i32) (T1 : S263.Idx → Elt F .i32) (T2 : S263.Idx → Elt F .i32) (T3 : S263.Idx → Elt F .i32) (T4 : S263.Idx → Elt F .i32) (T5 : S1.Idx → Elt F .i32)
    (x0 : S512x1024.Idx → Elt F .f32) (x1 : S1x1024x3584.Idx → Elt F .bf16) (x2 : S1x1024x3584.Idx → Elt F .bf16) (x3 : S1x3584x1024.Idx → Elt F .bf16) (x4 : S512x1024.Idx → Elt F .f32)
    (h1 : k0_cond1 i (View.readAt (Elt F) tb5.view (Rect.unit (s := S1) ![0] S1.size inb_S1_S1_0).toLoadRect T5 (Shape.Idx.first (numel1_S1.symm ▸ Nat.one_pos))) = 1#1) (h2 : ¬ k0_cond2 i (View.readAt (Elt F) tb4.view (Rect.unit (s := S263) (k0_off2 i) S1.size (k0_off2_inb i)).toLoadRect T4 (Shape.Idx.first (numel1_S1.symm ▸ Nat.one_pos))) = 1#1) (h3 : k0_cond3 i (View.readAt (Elt F) tb4.view (Rect.unit (s := S263) (k0_off3 i) S1.size (k0_off3_inb i)).toLoadRect T4 (Shape.Idx.first (numel1_S1.symm ▸ Nat.one_pos))) = 1#1) :
    Σ' (out0 : List (View.Piece (Elt F) S512x1024 .f32)), { out1 : Buf (Elt F) ((c : Thread nD τ).loc cc0_scratch0) //
      ∀ (xa0 : Buf (Elt F) ((c : Thread nD τ).loc cc0_scratch0)) (K : PUnit → sProp (Mod F)),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (arg11.view.loc (c : Thread nD τ) ↦[arg11.view.set]{fullShare} arg11.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (tb5.view.loc (c : Thread nD τ) ↦{fullShare.right} T5)
          ∗ (arg12.view.loc (c : Thread nD τ) ↦[arg12.view.set]{fullShare} arg12.view.rep x4)
          ∗ (scr.view.loc (c : Thread nD τ) ↦{fullShare} xa0)
          ∗ (iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (arg11.view.loc (c : Thread nD τ) ↦[arg11.view.set]{fullShare} arg11.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (tb5.view.loc (c : Thread nD τ) ↦{fullShare.right} T5)
              ∗ (∃ f, arg12.view.loc (c : Thread nD τ) ↦[arg12.view.set]{fullShare} arg12.view.writes (Elt F) f out0)
              ∗ (scr.view.loc (c : Thread nD τ) ↦{fullShare} out1)) -∗ K ⟨⟩))
          ⊢ wp frame (wpE (defs₀ (F := F)) Variants.none c none) Set.univ (cc0_ffn i tb0 (Memref.isWhole_whole _) tb1 (Memref.isWhole_whole _) tb2 (Memref.isWhole_whole _) tb3 (Memref.isWhole_whole _) tb4 (Memref.isWhole_whole _) tb5 (Memref.isWhole_whole _) arg8 harg8 arg9 harg9 arg10 harg10 arg11 harg11 arg12 harg12 scr (Memref.isWhole_whole _)) K } :=
  ⟨_, _, fun xa0 K => by
    rw [cc0_ffn_eq_skeleton]; unfold cc0_ffn_skel
    iintro ⟨H0, H1, H2, H3, HT0, HT1, HT2, HT3, HT4, HT5, HO4, HS0, Hk⟩
    have hS0 : scr.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    have hT5 : tb5.IsWhole := Memref.isWhole_whole _
    sl_exec! (disch := first | (guard_target = (k0_cond1 _ _ = _); exact h1) | (guard_target = ¬ (k0_cond2 _ _ = _); exact h2) | (guard_target = (k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HT5]; · iexact HT5
    isplitl [HO4]; · iexists _; iexact HO4
    iexact HS0⟩

set_option backward.proofsInPublic true in
set_option maxHeartbeats 8000000 in
/-- Past the last visit the body leaves everything as it was. -/
theorem runC (c : Dev nD) (i : grid0.Coords) (arg8 : Memref sig .tc .vmem S512x1024 .f32) (harg8 : arg8.IsWhole) (arg9 : Memref sig .tc .vmem S1x1024x3584 .bf16) (harg9 : arg9.IsWhole) (arg10 : Memref sig .tc .vmem S1x1024x3584 .bf16) (harg10 : arg10.IsWhole) (arg11 : Memref sig .tc .vmem S1x3584x1024 .bf16) (harg11 : arg11.IsWhole) (arg12 : Memref sig .tc .vmem S512x1024 .f32) (harg12 : arg12.IsWhole) (T0 : S263.Idx → Elt F .i32) (T1 : S263.Idx → Elt F .i32) (T2 : S263.Idx → Elt F .i32) (T3 : S263.Idx → Elt F .i32) (T4 : S263.Idx → Elt F .i32) (T5 : S1.Idx → Elt F .i32)
    (x0 : S512x1024.Idx → Elt F .f32) (x1 : S1x1024x3584.Idx → Elt F .bf16) (x2 : S1x1024x3584.Idx → Elt F .bf16) (x3 : S1x3584x1024.Idx → Elt F .bf16) (x4 : S512x1024.Idx → Elt F .f32)
    (h1 : ¬ k0_cond1 i (View.readAt (Elt F) tb5.view (Rect.unit (s := S1) ![0] S1.size inb_S1_S1_0).toLoadRect T5 (Shape.Idx.first (numel1_S1.symm ▸ Nat.one_pos))) = 1#1) :
      ∀ (xa0 : Buf (Elt F) ((c : Thread nD τ).loc cc0_scratch0)) (K : PUnit → sProp (Mod F)),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (arg11.view.loc (c : Thread nD τ) ↦[arg11.view.set]{fullShare} arg11.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (tb5.view.loc (c : Thread nD τ) ↦{fullShare.right} T5)
          ∗ (arg12.view.loc (c : Thread nD τ) ↦[arg12.view.set]{fullShare} arg12.view.rep x4)
          ∗ (scr.view.loc (c : Thread nD τ) ↦{fullShare} xa0)
          ∗ (iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (arg11.view.loc (c : Thread nD τ) ↦[arg11.view.set]{fullShare} arg11.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (tb5.view.loc (c : Thread nD τ) ↦{fullShare.right} T5)
              ∗ (arg12.view.loc (c : Thread nD τ) ↦[arg12.view.set]{fullShare} arg12.view.rep x4)
              ∗ (scr.view.loc (c : Thread nD τ) ↦{fullShare} xa0)) -∗ K ⟨⟩))
          ⊢ wp frame (wpE (defs₀ (F := F)) Variants.none c none) Set.univ (cc0_ffn i tb0 (Memref.isWhole_whole _) tb1 (Memref.isWhole_whole _) tb2 (Memref.isWhole_whole _) tb3 (Memref.isWhole_whole _) tb4 (Memref.isWhole_whole _) tb5 (Memref.isWhole_whole _) arg8 harg8 arg9 harg9 arg10 harg10 arg11 harg11 arg12 harg12 scr (Memref.isWhole_whole _)) K := fun xa0 K => by
    rw [cc0_ffn_eq_skeleton]; unfold cc0_ffn_skel
    iintro ⟨H0, H1, H2, H3, HT0, HT1, HT2, HT3, HT4, HT5, HO4, HS0, Hk⟩
    have hS0 : scr.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    have hT5 : tb5.IsWhole := Memref.isWhole_whole _
    sl_exec! (disch := first | (guard_target = ¬ (k0_cond1 _ _ = _); exact h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HT5]; · iexact HT5
    isplitl [HO4]; · iexact HO4
    iexact HS0

/-- What the first visit's stores leave in the output staging buffer: the block computed from the four inputs. -/
theorem read_runA (c : Dev nD) (i : grid0.Coords) (arg8 : Memref sig .tc .vmem S512x1024 .f32) (harg8 : arg8.IsWhole) (arg9 : Memref sig .tc .vmem S1x1024x3584 .bf16) (harg9 : arg9.IsWhole) (arg10 : Memref sig .tc .vmem S1x1024x3584 .bf16) (harg10 : arg10.IsWhole) (arg11 : Memref sig .tc .vmem S1x3584x1024 .bf16) (harg11 : arg11.IsWhole) (arg12 : Memref sig .tc .vmem S512x1024 .f32) (harg12 : arg12.IsWhole) (T0 : S263.Idx → Elt F .i32) (T1 : S263.Idx → Elt F .i32) (T2 : S263.Idx → Elt F .i32) (T3 : S263.Idx → Elt F .i32) (T4 : S263.Idx → Elt F .i32) (T5 : S1.Idx → Elt F .i32)
    (x0 : S512x1024.Idx → Elt F .f32) (x1 : S1x1024x3584.Idx → Elt F .bf16) (x2 : S1x1024x3584.Idx → Elt F .bf16) (x3 : S1x3584x1024.Idx → Elt F .bf16) (x4 : S512x1024.Idx → Elt F .f32)
    (h1 : k0_cond1 i (View.readAt (Elt F) tb5.view (Rect.unit (s := S1) ![0] S1.size inb_S1_S1_0).toLoadRect T5 (Shape.Idx.first (numel1_S1.symm ▸ Nat.one_pos))) = 1#1) (h2 : k0_cond2 i (View.readAt (Elt F) tb4.view (Rect.unit (s := S263) (k0_off2 i) S1.size (k0_off2_inb i)).toLoadRect T4 (Shape.Idx.first (numel1_S1.symm ▸ Nat.one_pos))) = 1#1) (h3 : ¬ k0_cond3 i (View.readAt (Elt F) tb4.view (Rect.unit (s := S263) (k0_off3 i) S1.size (k0_off3_inb i)).toLoadRect T4 (Shape.Idx.first (numel1_S1.symm ▸ Nat.one_pos))) = 1#1) (f : Buf (Elt F) (arg12.view.loc (c : Thread nD τ))) :
    arg12.view.read (Elt F) (arg12.view.writes (Elt F) f (runA c i arg8 harg8 arg9 harg9 arg10 harg10 arg11 harg11 arg12 harg12 T0 T1 T2 T3 T4 T5 x0 x1 x2 x3 x4 h1 h2 h3).1) = k0_pay1 x0 x1 x2 x3 := by
  rw [View.read_writes_eq_canon _ _ _ (View.cover_of_tiledL (runA c i arg8 harg8 arg9 harg9 arg10 harg10 arg11 harg11 arg12 harg12 T0 T1 T2 T3 T4 T5 x0 x1 x2 x3 x4 h1 h2 h3).1 S512x1024.size (by sl_kernel_rfl))]
  unfold runA
  frame_out
  simp only [View.read_rep]

/-- What a later visit's stores leave in the output staging buffer. -/
theorem read_runB (c : Dev nD) (i : grid0.Coords) (arg8 : Memref sig .tc .vmem S512x1024 .f32) (harg8 : arg8.IsWhole) (arg9 : Memref sig .tc .vmem S1x1024x3584 .bf16) (harg9 : arg9.IsWhole) (arg10 : Memref sig .tc .vmem S1x1024x3584 .bf16) (harg10 : arg10.IsWhole) (arg11 : Memref sig .tc .vmem S1x3584x1024 .bf16) (harg11 : arg11.IsWhole) (arg12 : Memref sig .tc .vmem S512x1024 .f32) (harg12 : arg12.IsWhole) (T0 : S263.Idx → Elt F .i32) (T1 : S263.Idx → Elt F .i32) (T2 : S263.Idx → Elt F .i32) (T3 : S263.Idx → Elt F .i32) (T4 : S263.Idx → Elt F .i32) (T5 : S1.Idx → Elt F .i32)
    (x0 : S512x1024.Idx → Elt F .f32) (x1 : S1x1024x3584.Idx → Elt F .bf16) (x2 : S1x1024x3584.Idx → Elt F .bf16) (x3 : S1x3584x1024.Idx → Elt F .bf16) (x4 : S512x1024.Idx → Elt F .f32)
    (h1 : k0_cond1 i (View.readAt (Elt F) tb5.view (Rect.unit (s := S1) ![0] S1.size inb_S1_S1_0).toLoadRect T5 (Shape.Idx.first (numel1_S1.symm ▸ Nat.one_pos))) = 1#1) (h2 : ¬ k0_cond2 i (View.readAt (Elt F) tb4.view (Rect.unit (s := S263) (k0_off2 i) S1.size (k0_off2_inb i)).toLoadRect T4 (Shape.Idx.first (numel1_S1.symm ▸ Nat.one_pos))) = 1#1) (h3 : k0_cond3 i (View.readAt (Elt F) tb4.view (Rect.unit (s := S263) (k0_off3 i) S1.size (k0_off3_inb i)).toLoadRect T4 (Shape.Idx.first (numel1_S1.symm ▸ Nat.one_pos))) = 1#1) (f : Buf (Elt F) (arg12.view.loc (c : Thread nD τ))) :
    arg12.view.read (Elt F) (arg12.view.writes (Elt F) f (runB c i arg8 harg8 arg9 harg9 arg10 harg10 arg11 harg11 arg12 harg12 T0 T1 T2 T3 T4 T5 x0 x1 x2 x3 x4 h1 h2 h3).1)
      = k0_pay2 (View.readAt (Elt F) tb2.view (Rect.unit (s := S263) (k0_off4 i) S1.size (k0_off4_inb i)).toLoadRect T2 (Shape.Idx.first (numel1_S1.symm ▸ Nat.one_pos))) (View.readAt (Elt F) tb3.view (Rect.unit (s := S263) (k0_off4 i) S1.size (k0_off4_inb i)).toLoadRect T3 (Shape.Idx.first (numel1_S1.symm ▸ Nat.one_pos))) (k0_pay1 x0 x1 x2 x3) x4 := by
  rw [View.read_writes_eq_canon _ _ _ (View.cover_of_tiledL (runB c i arg8 harg8 arg9 harg9 arg10 harg10 arg11 harg11 arg12 harg12 T0 T1 T2 T3 T4 T5 x0 x1 x2 x3 x4 h1 h2 h3).1 S512x1024.size (by sl_kernel_rfl))]
  unfold runB
  frame_out
  simp only [View.read_rep]

end Cert.Exp

end
-- ==== Proof.ExpertsWords.lean ====
module

public import proofs.«01_k».proof.Proof.ExpertsBody
public import Idealize.ShloMosaic.Lib.WordCmp

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

open Idealize.ShloMosaic.WordCmp

/-! ## The words the body reads, and its three conditions -/

theorem off1_val (i : grid0.Coords) : (Scalar.indexCast (BitVec.ofNat 32 (i 0).val) : Index).toNat = (i 0).val := by
  have h : (i 0).val < 263 := (i 0).isLt
  simp only [Scalar.indexCast, BitVec.toNat_ofNat]
  omega

/-- The one element of the unit rectangle at a grid point's offset is the point's entry. -/
theorem unit_idx (i : grid0.Coords) (off : Fin 1 → ℕ) (ho : off = ![(Scalar.indexCast (BitVec.ofNat 32 (i 0).val) : Index).toNat]) (hb : ∀ a, off a + S1.size a ≤ S263.size a) (x : (Rect.unit (s := S263) off S1.size hb).shape.Idx) :
    (Rect.unit (s := S263) off S1.size hb).emb x = ix1 (i 0) := by
  subst ho
  funext a
  match a with
  | ⟨0, _⟩ =>
    have hx : (x ⟨0, Nat.one_pos⟩).val < 1 := (x ⟨0, Nat.one_pos⟩).isLt
    have := off1_val i
    apply Fin.ext
    show (![(Scalar.indexCast (BitVec.ofNat 32 (i 0).val) : Index).toNat] : Fin 1 → ℕ) 0 + 1 * (x ⟨0, Nat.one_pos⟩).val = (i 0).val
    show (Scalar.indexCast (BitVec.ofNat 32 (i 0).val) : Index).toNat + 1 * (x ⟨0, Nat.one_pos⟩).val = (i 0).val
    omega

/-- The table entry a grid point reads of the fifth table, under the first condition on it. -/
theorem word4 (i : grid0.Coords) (T4 : S263.Idx → Elt F .i32) : (View.readAt (Elt F) tb4.view (Rect.unit (s := S263) (k0_off2 i) S1.size (k0_off2_inb i)).toLoadRect T4 (Shape.Idx.first (numel1_S1.symm ▸ Nat.one_pos))) = T4 (ix1 (i 0)) :=
  congrArg T4 (unit_idx i _ rfl (k0_off2_inb i) _)

/-- The same entry, under the second condition. -/
theorem word4' (i : grid0.Coords) (T4 : S263.Idx → Elt F .i32) : (View.readAt (Elt F) tb4.view (Rect.unit (s := S263) (k0_off3 i) S1.size (k0_off3_inb i)).toLoadRect T4 (Shape.Idx.first (numel1_S1.symm ▸ Nat.one_pos))) = T4 (ix1 (i 0)) :=
  congrArg T4 (unit_idx i _ rfl (k0_off3_inb i) _)

/-- The first row bound a grid point reads. -/
theorem word2 (i : grid0.Coords) (T2 : S263.Idx → Elt F .i32) : (View.readAt (Elt F) tb2.view (Rect.unit (s := S263) (k0_off4 i) S1.size (k0_off4_inb i)).toLoadRect T2 (Shape.Idx.first (numel1_S1.symm ▸ Nat.one_pos))) = T2 (ix1 (i 0)) :=
  congrArg T2 (unit_idx i _ rfl (k0_off4_inb i) _)

/-- The second row bound a grid point reads. -/
theorem word3 (i : grid0.Coords) (T3 : S263.Idx → Elt F .i32) : (View.readAt (Elt F) tb3.view (Rect.unit (s := S263) (k0_off4 i) S1.size (k0_off4_inb i)).toLoadRect T3 (Shape.Idx.first (numel1_S1.symm ▸ Nat.one_pos))) = T3 (ix1 (i 0)) :=
  congrArg T3 (unit_idx i _ rfl (k0_off4_inb i) _)

/-- The number of visits a grid point reads. -/
theorem word5 (T5 : S1.Idx → Elt F .i32) : (View.readAt (Elt F) tb5.view (Rect.unit (s := S1) ![0] S1.size inb_S1_S1_0).toLoadRect T5 (Shape.Idx.first (numel1_S1.symm ▸ Nat.one_pos))) = T5 (ix1 0) :=
  congrArg T5 (by funext a; match a with | ⟨0, _⟩ => apply Fin.ext; exact Nat.lt_one_iff.1 (Fin.isLt _))

/-- A bit widened differs from zero exactly when it is one. -/
theorem ne_zero_iff (b : BitVec 1) : Scalar.cmpi .ne (Scalar.extui b : BitVec 32) 0#32 = 1#1 ↔ b = 1#1 := by
  revert b; decide

/-- The first condition: the point lies before the number of visits. -/
theorem cond1_iff (i : grid0.Coords) (v : BitVec 32) (hv : v.toNat ≤ 263) : k0_cond1 i v = 1#1 ↔ (i 0).val < v.toNat := by
  have h : (i 0).val < 263 := (i 0).isLt
  have he : (BitVec.ofNat 32 (i 0).val).toNat = (i 0).val := by rw [BitVec.toNat_ofNat]; omega
  refine (ne_zero_iff _).trans ?_
  show IntOp.cmpi .slt (BitVec.ofNat 32 (i 0).val) v = 1#1 ↔ _
  rw [cmpi_slt_of_lt (by rw [he]; norm_num; omega) (by norm_num; omega), he, ofBool_decide_eq_one_iff]

theorem arg1_zero (i : grid0.Coords) : (BitVec.ofNat 32 (i 1).val) = 0#32 := by
  have h : (i 1).val < 1 := (i 1).isLt
  rw [Nat.lt_one_iff.1 h]

/-- The second condition: the word is one. -/
theorem cond2_iff (i : grid0.Coords) (v : BitVec 32) : k0_cond2 i v = 1#1 ↔ v = 1#32 := by
  refine (ne_zero_iff _).trans ?_
  show IntOp.andi (IntOp.cmpi .eq (BitVec.ofNat 32 (i 1).val) 0#32) (IntOp.cmpi .eq v 1#32) = 1#1 ↔ _
  rw [arg1_zero, cmpi_eq_eq, cmpi_eq_eq]
  by_cases hv : v = 1#32
  · subst hv; decide
  · simp only [hv, decide_false]; decide

/-- The third condition: the word is zero. -/
theorem cond3_iff (i : grid0.Coords) (v : BitVec 32) : k0_cond3 i v = 1#1 ↔ v = 0#32 := by
  refine (ne_zero_iff _).trans ?_
  show IntOp.andi (IntOp.cmpi .eq (BitVec.ofNat 32 (i 1).val) 0#32) (IntOp.cmpi .eq v 0#32) = 1#1 ↔ _
  rw [arg1_zero, cmpi_eq_eq, cmpi_eq_eq]
  by_cases hv : v = 0#32
  · subst hv; decide
  · simp only [hv, decide_false]; decide

/-! ## The tables as the pipeline holds them -/

variable (pf : pre0.Contents (Elt F))

/-- The expert of a visit. -/
def wE (pf : pre0.Contents (Elt F)) (j : Fin 263) : BitVec 32 := pf 0 (ix1 j)
/-- The tile of a visit. -/
def wT (pf : pre0.Contents (Elt F)) (j : Fin 263) : BitVec 32 := pf 1 (ix1 j)
/-- The first row of a visit in its tile. -/
def wL (pf : pre0.Contents (Elt F)) (j : Fin 263) : BitVec 32 := pf 2 (ix1 j)
/-- The row after the last of a visit in its tile. -/
def wH (pf : pre0.Contents (Elt F)) (j : Fin 263) : BitVec 32 := pf 3 (ix1 j)
/-- One where a visit is the first of its tile, zero elsewhere. -/
def wF (pf : pre0.Contents (Elt F)) (j : Fin 263) : BitVec 32 := pf 4 (ix1 j)
/-- The number of visits. -/
def wN (pf : pre0.Contents (Elt F)) : BitVec 32 := pf 5 (ix1 0)

/-- The index map of the row windows reads the tile of the point. -/
theorem map_tile (i : grid0.Coords) : cc0_transform_4 k0_off1_inb numel1_S1 pf i = ![(wT pf (i 0)).toNat, 0] :=
  congrArg (fun w : BitVec 32 => (![w.toNat, 0] : Fin 2 → ℕ)) (congrArg (pf 1) (unit_idx i _ rfl (k0_off1_inb i) _))

theorem map_tile0 (i : grid0.Coords) : cc0_transform_0 k0_off1_inb numel1_S1 pf i = ![(wT pf (i 0)).toNat, 0] :=
  congrArg (fun w : BitVec 32 => (![w.toNat, 0] : Fin 2 → ℕ)) (congrArg (pf 1) (unit_idx i _ rfl (k0_off1_inb i) _))

/-- The index maps of the weights read the expert of the point. -/
theorem map_expert1 (i : grid0.Coords) : cc0_transform_1 k0_off1_inb numel1_S1 pf i = ![(wE pf (i 0)).toNat, 0, 0] := by
  refine (congrArg (fun w : BitVec 32 => (![w.toNat, 0, (BitVec.ofNat 32 (i 1).val).toNat] : Fin 3 → ℕ)) (congrArg (pf 0) (unit_idx i _ rfl (k0_off1_inb i) _))).trans ?_
  rw [arg1_zero]; rfl

theorem map_expert2 (i : grid0.Coords) : cc0_transform_2 k0_off1_inb numel1_S1 pf i = ![(wE pf (i 0)).toNat, 0, 0] := map_expert1 pf i

theorem map_expert3 (i : grid0.Coords) : cc0_transform_3 k0_off1_inb numel1_S1 pf i = ![(wE pf (i 0)).toNat, 0, 0] := by
  refine (congrArg (fun w : BitVec 32 => (![w.toNat, (BitVec.ofNat 32 (i 1).val).toNat, 0] : Fin 3 → ℕ)) (congrArg (pf 0) (unit_idx i _ rfl (k0_off1_inb i) _))).trans ?_
  rw [arg1_zero]; rfl

theorem atD5 : pf.atD 5 ![0] = wN pf := by
  unfold Pipeline.Prefetch.Contents.atD
  rw [dif_pos (by intro a; match a with | ⟨0, _⟩ => exact Nat.le_refl 1)]
  exact congrArg (pf 5) (by funext a; match a with | ⟨0, _⟩ => rfl)

theorem atD4 (i : grid0.Coords) (off : Fin 1 → ℕ) (ho : off = ![(Scalar.indexCast (BitVec.ofNat 32 (i 0).val) : Index).toNat]) : pf.atD 4 off = wF pf (i 0) := by
  have e := off1_val i
  have h : (i 0).val < 263 := (i 0).isLt
  subst ho
  unfold Pipeline.Prefetch.Contents.atD
  rw [dif_pos (by intro a; match a with | ⟨0, _⟩ => show (Scalar.indexCast (BitVec.ofNat 32 (i 0).val) : Index).toNat + 1 ≤ 263; omega)]
  exact congrArg (pf 4) (by funext a; match a with | ⟨0, _⟩ => exact Fin.ext e)

/-- The output window is left alone exactly at the points past the last visit, when every visit's word is one or zero. -/
theorem idle_eq (i : grid0.Coords) (hn : (wN pf).toNat ≤ 263) (hw : wF pf (i 0) = 1#32 ∨ wF pf (i 0) = 0#32) :
    idle0 pf 4 i = decide ((wN pf).toNat ≤ (i 0).val) := by
  show (!(k0_cond1 i (pf.atD 5 ![0]) == 1#1 && k0_cond2 i (pf.atD 4 (k0_off2 i)) == 1#1) && !(k0_cond1 i (pf.atD 5 ![0]) == 1#1 && k0_cond3 i (pf.atD 4 (k0_off3 i)) == 1#1)) = _
  rw [atD5, atD4 pf i (k0_off2 i) rfl, atD4 pf i (k0_off3 i) rfl]
  have h1 := cond1_iff i _ hn
  have h2 := cond2_iff i (wF pf (i 0))
  have h3 := cond3_iff i (wF pf (i 0))
  by_cases hlt : (i 0).val < (wN pf).toNat
  · rw [h1.2 hlt, decide_eq_false (by omega)]
    rcases hw with hw | hw
    · rw [h2.2 hw]; simp
    · rw [h3.2 hw]; simp
  · rw [decide_eq_true (by omega)]
    have : ¬ k0_cond1 i (wN pf) = 1#1 := fun h => hlt (h1.1 h)
    simp [this]

end Cert.Exp

end
-- ==== Proof.ExpertsRun.lean ====
module

public import proofs.«01_k».proof.Proof.ExpertsWords

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

/-! ## What the run needs of the tables -/

/-- What the run needs of the tables: the number of visits, the ranges of the tiles and experts, the words telling a tile's first visit, and the tile standing still past the last visit. -/
structure Good (pf : pre0.Contents (Elt F)) : Prop where
  np_pos : 0 < (wN pf).toNat
  np_le : (wN pf).toNat ≤ 263
  tile_lt : ∀ j : Fin 263, (wT pf j).toNat < 256
  expert_lt : ∀ j : Fin 263, (wE pf j).toNat < 8
  first_zero : (wF pf 0) = 1#32
  first_succ : ∀ (j : ℕ) (h : j + 1 < 263), (wF pf ⟨j + 1, h⟩)
    = if (wT pf ⟨j + 1, h⟩) = wT pf ⟨j, Nat.lt_of_succ_lt h⟩ then 0#32 else 1#32
  tail : ∀ (j : ℕ) (h : j + 1 < 263), (wN pf).toNat ≤ j + 1 →
    (wT pf ⟨j + 1, h⟩) = wT pf ⟨j, Nat.lt_of_succ_lt h⟩

namespace Good

variable {pf : pre0.Contents (Elt F)} (hg : Good pf)

include hg

theorem first_cases (j : Fin 263) : (wF pf j) = 1#32 ∨ (wF pf j) = 0#32 := by
  obtain ⟨n, hn⟩ := j
  cases n with
  | zero => exact .inl hg.first_zero
  | succ n =>
    rw [hg.first_succ n hn]
    split
    · exact .inr rfl
    · exact .inl rfl

omit hg in
theorem tile_inb (x : Fin 2 → ℕ) (n : ℕ) (hx : x = ![n, 0]) (hn : n < 256) : ∀ a, (x a + 1) * S512x1024.size a ≤ S131072x1024.size a := by
  subst hx; intro a
  match a with
  | ⟨0, _⟩ => show (n + 1) * 512 ≤ 131072; omega
  | ⟨1, _⟩ => exact Nat.le_refl _

omit hg in
theorem up_inb (x : Fin 3 → ℕ) (n : ℕ) (hx : x = ![n, 0, 0]) (hn : n < 8) : ∃ h : (∀ a, (x a + 1) * S1x1024x3584.size a ≤ S8x1024x3584.size a),
    EltTy.bits .bf16 = 32 ∨ (Rect.block (s := S8x1024x3584) S1x1024x3584.size x h).WholeWords (EltTy.packing .bf16) := by
  subst hx
  refine ⟨fun a => ?_, .inr (.inr ⟨by decide, rfl, rfl, rfl⟩)⟩
  match a with
  | ⟨0, _⟩ => show (n + 1) * 1 ≤ 8; omega
  | ⟨1, _⟩ => exact Nat.le_refl _
  | ⟨2, _⟩ => exact Nat.le_refl _

omit hg in
theorem down_inb (x : Fin 3 → ℕ) (n : ℕ) (hx : x = ![n, 0, 0]) (hn : n < 8) : ∃ h : (∀ a, (x a + 1) * S1x3584x1024.size a ≤ S8x3584x1024.size a),
    EltTy.bits .bf16 = 32 ∨ (Rect.block (s := S8x3584x1024) S1x3584x1024.size x h).WholeWords (EltTy.packing .bf16) := by
  subst hx
  refine ⟨fun a => ?_, .inr (.inr ⟨by decide, rfl, rfl, rfl⟩)⟩
  match a with
  | ⟨0, _⟩ => show (n + 1) * 1 ≤ 8; omega
  | ⟨1, _⟩ => exact Nat.le_refl _
  | ⟨2, _⟩ => exact Nat.le_refl _

/-- Every block of every window at such tables lies inside its array, at whole words. -/
theorem ok : ok0 pf :=
  ⟨fun i => ⟨tile_inb _ _ (map_tile0 pf i) (hg.tile_lt (i 0)), .inl rfl⟩,
    fun i => up_inb _ _ (map_expert1 pf i) (hg.expert_lt (i 0)),
    fun i => up_inb _ _ (map_expert2 pf i) (hg.expert_lt (i 0)),
    fun i => down_inb _ _ (map_expert3 pf i) (hg.expert_lt (i 0)),
    fun i => ⟨tile_inb _ _ (map_tile pf i) (hg.tile_lt (i 0)), .inl rfl⟩⟩

end Good

/-! ## The pipeline at the tables -/

variable (a : (pcfg0 (F := F)).Adm)
variable (V : (c : Dev nD) → (b : Ref sig .tc) → Buf (Elt F) ((c.tc : Thread nD τ).loc b))

abbrev crd (t : Fin (cfg0 a).N) : (cfg0 a).grid.Coords := (cfg0 a).grid.coords t

theorem coords_val : ∀ t : Fin grid0.N, (grid0.coords t 0).val = t.val := by decide +kernel

/-- The point's number as an index of the tables. -/
theorem crd_eq (t : Fin (cfg0 a).N) : (crd a t 0 : Fin 263) = ⟨t.val, t.isLt.trans_eq N_0⟩ := Fin.ext (coords_val t)

abbrev ms0 (t : Fin (cfg0 a).N) : Memref sig .tc .vmem S512x1024 .f32 := spec0_0.stage ((cfg0 a).slots t (0 : Fin 5))
abbrev hs0 (t : Fin (cfg0 a).N) : (ms0 a t).IsWhole := hstage0_0 (((cfg0 a).slots t (0 : Fin 5)).cast nbuf0_0)
abbrev ms1 (t : Fin (cfg0 a).N) : Memref sig .tc .vmem S1x1024x3584 .bf16 := spec0_1.stage ((cfg0 a).slots t (1 : Fin 5))
abbrev hs1 (t : Fin (cfg0 a).N) : (ms1 a t).IsWhole := hstage0_1 (((cfg0 a).slots t (1 : Fin 5)).cast nbuf0_1)
abbrev ms2 (t : Fin (cfg0 a).N) : Memref sig .tc .vmem S1x1024x3584 .bf16 := spec0_2.stage ((cfg0 a).slots t (2 : Fin 5))
abbrev hs2 (t : Fin (cfg0 a).N) : (ms2 a t).IsWhole := hstage0_2 (((cfg0 a).slots t (2 : Fin 5)).cast nbuf0_2)
abbrev ms3 (t : Fin (cfg0 a).N) : Memref sig .tc .vmem S1x3584x1024 .bf16 := spec0_3.stage ((cfg0 a).slots t (3 : Fin 5))
abbrev hs3 (t : Fin (cfg0 a).N) : (ms3 a t).IsWhole := hstage0_3 (((cfg0 a).slots t (3 : Fin 5)).cast nbuf0_3)
abbrev ms4 (t : Fin (cfg0 a).N) : Memref sig .tc .vmem S512x1024 .f32 := spec0_4.stage ((cfg0 a).slots t (4 : Fin 5))
abbrev hs4 (t : Fin (cfg0 a).N) : (ms4 a t).IsWhole := hstage0_4 (((cfg0 a).slots t (4 : Fin 5)).cast nbuf0_4)

/-- Window `w`'s block at point `t`, read off its array as the region finds it. -/
def iblk (c : Dev nD) (w : Fin (cfg0 a).W) (t : Fin (cfg0 a).N) : (((cfg0 a).win w).xblock (crd a t)).Idx → Elt F ((cfg0 a).win w).elt :=
  (((cfg0 a).win w).blk t).view.read (Elt F) (V c (Pipeline.arrRef spec0 w))

/-- The rows of the point's tile through the point's expert. -/
def yblk (c : Dev nD) (t : Fin (cfg0 a).N) : S512x1024.Idx → Elt F .f32 := k0_pay1 (iblk a V c (0 : Fin 5) t) (iblk a V c (1 : Fin 5) t) (iblk a V c (2 : Fin 5) t) (iblk a V c (3 : Fin 5) t)

/-- What the output staging buffer holds after a point, from what it held before it. -/
def step (c : Dev nD) (t : Fin (cfg0 a).N) (prev : S512x1024.Idx → Elt F .f32) : S512x1024.Idx → Elt F .f32 :=
  if t.val < (wN a.1).toNat then
    if (wF a.1 (crd a t 0)) = 1#32 then yblk a V c t
    else k0_pay2 (wL a.1 (crd a t 0)) (wH a.1 (crd a t 0)) (yblk a V c t) prev
  else prev

/-- What the output staging buffer holds after the points up to `n`. -/
def traj (c : Dev nD) : (n : ℕ) → n < (cfg0 a).N → (S512x1024.Idx → Elt F .f32)
  | 0, h => yblk a V c ⟨0, h⟩
  | n + 1, h => step a V c ⟨n + 1, h⟩ (traj c n (Nat.lt_of_succ_lt h))

/-- The pipeline's proof data: the arrays as the region finds them, the inputs' blocks unchanged, the output as the trajectory says. -/
def dats (_ : Fin 1) (c : Dev nD) : Dat τ (Elt F) Unit ℕ (UR sig nD τ) ℕ (cfg0 a) c where
  A w := V c (Pipeline.arrRef spec0 w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => traj a V c t.val t.isLt
  Φ _ := iprop(Pipeline.ΦA spec0 c ∗ Pipeline.ΦT pre0 a.1 c)
  q _ := fullShare
  owed _ := 0

theorem after_4 (c : Dev nD) (t : Fin (cfg0 a).N) : (dats a V 0 c).after (4 : Fin 5) t = traj a V c t.val t.isLt := rfl
theorem after_0 (c : Dev nD) (t : Fin (cfg0 a).N) : (dats a V 0 c).after (0 : Fin 5) t = iblk a V c (0 : Fin 5) t := rfl
/-- Input window 0's staging buffer holds its block when the body runs. -/
theorem before_0 (c : Dev nD) (t : Fin (cfg0 a).N) (d) : (dats a V 0 c).before (0 : Fin 5) t d = iblk a V c (0 : Fin 5) t :=
  ((dats a V 0 c).before_in_eq_fetched (0 : Fin 5) rfl (fun _ => rfl) (fun _ _ _ => rfl) (fun t => by rw [after_0]; unfold Dat.blockOf iblk; rfl) t d).trans
    (by unfold Dat.fetched Dat.blockOf iblk; rfl)
theorem after_1 (c : Dev nD) (t : Fin (cfg0 a).N) : (dats a V 0 c).after (1 : Fin 5) t = iblk a V c (1 : Fin 5) t := rfl
/-- Input window 1's staging buffer holds its block when the body runs. -/
theorem before_1 (c : Dev nD) (t : Fin (cfg0 a).N) (d) : (dats a V 0 c).before (1 : Fin 5) t d = iblk a V c (1 : Fin 5) t :=
  ((dats a V 0 c).before_in_eq_fetched (1 : Fin 5) rfl (fun _ => rfl) (fun _ _ _ => rfl) (fun t => by rw [after_1]; unfold Dat.blockOf iblk; rfl) t d).trans
    (by unfold Dat.fetched Dat.blockOf iblk; rfl)
theorem after_2 (c : Dev nD) (t : Fin (cfg0 a).N) : (dats a V 0 c).after (2 : Fin 5) t = iblk a V c (2 : Fin 5) t := rfl
/-- Input window 2's staging buffer holds its block when the body runs. -/
theorem before_2 (c : Dev nD) (t : Fin (cfg0 a).N) (d) : (dats a V 0 c).before (2 : Fin 5) t d = iblk a V c (2 : Fin 5) t :=
  ((dats a V 0 c).before_in_eq_fetched (2 : Fin 5) rfl (fun _ => rfl) (fun _ _ _ => rfl) (fun t => by rw [after_2]; unfold Dat.blockOf iblk; rfl) t d).trans
    (by unfold Dat.fetched Dat.blockOf iblk; rfl)
theorem after_3 (c : Dev nD) (t : Fin (cfg0 a).N) : (dats a V 0 c).after (3 : Fin 5) t = iblk a V c (3 : Fin 5) t := rfl
/-- Input window 3's staging buffer holds its block when the body runs. -/
theorem before_3 (c : Dev nD) (t : Fin (cfg0 a).N) (d) : (dats a V 0 c).before (3 : Fin 5) t d = iblk a V c (3 : Fin 5) t :=
  ((dats a V 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## The schedule at the tables -/

theorem index_eq (t : Fin (cfg0 a).N) : ((cfg0 a).win (4 : Fin 5)).index t = ![(wT a.1 (crd a t 0)).toNat, 0] := map_tile a.1 (crd a t)

theorem flush_iff (t : Fin (cfg0 a).N) : ((cfg0 a).win (4 : Fin 5)).flush t = true ↔ t.val + 1 = 263 ∨ ∃ h : t.val + 1 < 263,
    (wT a.1 ⟨t.val + 1, h⟩) ≠ wT a.1 ⟨t.val, Nat.lt_of_succ_lt h⟩ := by
  have hN : (cfg0 a).grid.N = 263 := N_0
  have ht := crd_eq a t
  unfold Pipeline.Window.flush
  rw [show ((cfg0 a).win (4 : Fin 5)).isOut = true from rfl, Bool.true_and, Bool.or_eq_true, decide_eq_true_iff, decide_eq_true_iff]
  refine or_congr ⟨fun h => h.trans hN, fun h => h.trans hN.symm⟩ ⟨fun ⟨h, hne⟩ => ⟨h.trans_eq hN, fun he => hne ?_⟩, fun ⟨h, hne⟩ => ⟨h.trans_eq hN.symm, fun he => hne ?_⟩⟩
  · rw [index_eq, index_eq, crd_eq, crd_eq]; exact congrArg (fun w : BitVec 32 => (![w.toNat, 0] : Fin 2 → ℕ)) he
  · rw [index_eq, index_eq, crd_eq, crd_eq] at he
    exact BitVec.eq_of_toNat_eq (congrFun he 0)

variable (hg : Good a.1)
include hg

theorem idle_iff (t : Fin (cfg0 a).N) : (cfg0 a).idle (4 : Fin 5) (crd a t) = decide ((wN a.1).toNat ≤ t.val) := by
  refine (idle_eq a.1 (crd a t) hg.np_le (hg.first_cases _)).trans ?_
  rw [show ((crd a t) 0).val = t.val from coords_val t]

/-- Where the tile is the one of the point before, the output staging buffer holds what that point left. -/
theorem fresh_same : ∀ (j : ℕ) (h : j + 1 < 263), (wT a.1 ⟨j + 1, h⟩) = wT a.1 ⟨j, Nat.lt_of_succ_lt h⟩ →
    (cfg0 a).fresh (4 : Fin 5) (j + 1) = false := by
  have hN : (cfg0 a).N = 263 := N_0
  intro j
  induction j with
  | zero =>
    intro h he
    rw [Pipeline.Cfg.fresh_succ _ _ 0 (by omega), Bool.or_eq_false_iff]
    refine ⟨Bool.eq_false_iff.2 fun hf => ?_, ?_⟩
    · rcases (flush_iff a _).1 hf with h1 | ⟨h1, h2⟩
      · simp at h1
      · exact h2 he
    · rw [idle_iff a hg, decide_eq_false (by have := hg.np_pos; simp only; omega), Bool.false_and]
  | succ j ih =>
    intro h he
    rw [Pipeline.Cfg.fresh_succ _ _ (j + 1) (by omega), Bool.or_eq_false_iff]
    refine ⟨Bool.eq_false_iff.2 fun hf => ?_, ?_⟩
    · rcases (flush_iff a _).1 hf with h1 | ⟨h1, h2⟩
      · simp only at h1; omega
      · exact h2 he
    · rw [idle_iff a hg]
      by_cases hi : (wN a.1).toNat ≤ j + 1
      · rw [ih (by omega) (hg.tail j (by omega) hi), Bool.and_false]
      · rw [decide_eq_false hi, Bool.false_and]

theorem traj_succ (c : Dev nD) (t : Fin (cfg0 a).N) (h0 : t.val ≠ 0) : traj a V c t.val t.isLt = step a V c t (traj a V c (t.val - 1) (by omega)) := by
  obtain ⟨n, hn⟩ := t
  cases n with
  | zero => exact absurd rfl h0
  | succ n => rfl

theorem traj_first (c : Dev nD) (t : Fin (cfg0 a).N) (h1 : t.val < (wN a.1).toNat) (h2 : (wF a.1 (crd a t 0)) = 1#32) :
    traj a V c t.val t.isLt = yblk a V c t := by
  by_cases h0 : t.val = 0
  · obtain ⟨n, hn⟩ := t; simp only at h0; subst h0; rfl
  · rw [traj_succ a V hg c t h0]; unfold step; rw [if_pos h1, if_pos h2]

/-- The output staging buffer before a point which does not start a tile, or lies past the last visit: what the point before left. -/
theorem before_4 (c : Dev nD) (t : Fin (cfg0 a).N) (h0 : t.val ≠ 0)
    (he : (wT a.1 (crd a t 0)) = wT a.1 ⟨t.val - 1, by have := t.isLt.trans_eq N_0; omega⟩) (d) :
    (dats a V 0 c).before (4 : Fin 5) t d = traj a V c (t.val - 1) (by omega) := by
  have hf : (cfg0 a).fresh (4 : Fin 5) t.val = false := by
    obtain ⟨n, hn⟩ := t
    cases n with
    | zero => exact absurd rfl h0
    | succ n => rw [crd_eq] at he; exact fresh_same a hg n (hn.trans_eq N_0) he
  rw [(dats a V 0 c).before_out_traj (4 : Fin 5) rfl (fun _ _ => rfl) ?_ t.val t rfl d, hf]
  · rfl
  · intro t h0 hi _
    rw [idle_iff a hg, decide_eq_true_iff] at hi
    rw [after_4, after_4, traj_succ a V hg c t h0]
    unfold step
    rw [if_neg (by omega)]

end Cert.Exp

end
-- ==== Proof.ExpertsFrame.lean ====
module

public import proofs.«01_k».proof.Proof.ExpertsRun

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

variable (a : (pcfg0 (F := F)).Adm)
variable (V : (c : Dev nD) → (b : Ref sig .tc) → Buf (Elt F) ((c.tc : Thread nD τ).loc b))

/-- The invariant between points: the scratch at anything, the generator register, the tables. -/
def phi (c : Dev nD) : sProp (Mod F) := iprop(Pipeline.ΦA spec0 c ∗ Pipeline.ΦT pre0 a.1 c)

/-- The tables, one by one. -/
theorem prefHeld_eq (c : Dev nD) (q : Fin 6 → PosShare TreeShare) (v : pre0.Contents (Elt F)) :
    (Pipeline.prefHeld (Ix := Unit) (Name := ℕ) (U := UR sig nD τ) (Lvl := ℕ) pre0 c q v : sProp (Mod F))
      = iprop((((c : Thread nD τ).loc main_v29) ↦{q 0} v 0) ∗ (((c : Thread nD τ).loc main_v53) ↦{q 1} v 1) ∗ (((c : Thread nD τ).loc main_v64) ↦{q 2} v 2) ∗ (((c : Thread nD τ).loc main_v75) ↦{q 3} v 3) ∗ (((c : Thread nD τ).loc main_v81) ↦{q 4} v 4) ∗ (((c : Thread nD τ).loc main_v82) ↦{q 5} v 5)) := by
  unfold Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- The invariant, piece by piece, as the runs of the body take it. -/
theorem phi_eq (c : Dev nD) : phi a c = iprop((∃ f : Buf (Elt F) ((c : Thread nD τ).loc cc0_scratch0), ((c : Thread nD τ).loc cc0_scratch0) ↦{fullShare} f) ∗ (∃ r, prngReg c r)
    ∗ (tb0.view.loc (c : Thread nD τ) ↦{fullShare.right} a.1 0) ∗ (tb1.view.loc (c : Thread nD τ) ↦{fullShare.right} a.1 1) ∗ (tb2.view.loc (c : Thread nD τ) ↦{fullShare.right} a.1 2)
    ∗ (tb3.view.loc (c : Thread nD τ) ↦{fullShare.right} a.1 3) ∗ (tb4.view.loc (c : Thread nD τ) ↦{fullShare.right} a.1 4) ∗ (tb5.view.loc (c : Thread nD τ) ↦{fullShare.right} a.1 5)) := by
  unfold phi Pipeline.ΦA Pipeline.ΦT
  rw [scopedRest0_eq, prefHeld_eq]
  exact equiv_iff.mp ⟨Idealize.SL.BI.sep_assoc, Idealize.SL.BI.sep_assoc'⟩

/-- The body at a point, on its staging memrefs. -/
abbrev bodyAt (t : Fin (cfg0 a).N) : Prog (TpuEff nD τ sig (Elt F) Λ₀ .tc) PUnit :=
  cc0_ffn (crd a t) tb0 (Memref.isWhole_whole _) tb1 (Memref.isWhole_whole _) tb2 (Memref.isWhole_whole _) tb3 (Memref.isWhole_whole _) tb4 (Memref.isWhole_whole _) tb5 (Memref.isWhole_whole _) (ms0 a t) (hs0 a t) (ms1 a t) (hs1 a t) (ms2 a t) (hs2 a t) (ms3 a t) (hs3 a t) (ms4 a t) (hs4 a t) scr (Memref.isWhole_whole _)

/-- What the body at a point must leave. -/
def bodyPost (c : Dev nD) (t : Fin (cfg0 a).N) : sProp (Mod F) :=
  iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t))

variable (hg : Good a.1)
include hg

/-! ## The conditions of the body at a point -/

theorem condN (t : Fin (cfg0 a).N) (hlt : t.val < (wN a.1).toNat) : k0_cond1 (crd a t) (View.readAt (Elt F) tb5.view (Rect.unit (s := S1) ![0] S1.size inb_S1_S1_0).toLoadRect (a.1 5) (Shape.Idx.first (numel1_S1.symm ▸ Nat.one_pos))) = 1#1 := by
  exact (congrArg (k0_cond1 (crd a t)) (word5 (a.1 5))).trans ((cond1_iff (crd a t) (wN a.1) hg.np_le).2 (by rw [coords_val]; exact hlt))

theorem condN' (t : Fin (cfg0 a).N) (hlt : ¬ t.val < (wN a.1).toNat) : ¬ k0_cond1 (crd a t) (View.readAt (Elt F) tb5.view (Rect.unit (s := S1) ![0] S1.size inb_S1_S1_0).toLoadRect (a.1 5) (Shape.Idx.first (numel1_S1.symm ▸ Nat.one_pos))) = 1#1 := by
  exact fun h => hlt (by rw [← coords_val t]; exact (cond1_iff (crd a t) (wN a.1) hg.np_le).1 ((congrArg (k0_cond1 (crd a t)) (word5 (a.1 5))).symm.trans h))

omit hg in
theorem condF (t : Fin (cfg0 a).N) (hw : wF a.1 (crd a t 0) = 1#32) : k0_cond2 (crd a t) (View.readAt (Elt F) tb4.view (Rect.unit (s := S263) (k0_off2 (crd a t)) S1.size (k0_off2_inb (crd a t))).toLoadRect (a.1 4) (Shape.Idx.first (numel1_S1.symm ▸ Nat.one_pos))) = 1#1 := by
  exact (congrArg (k0_cond2 (crd a t)) (word4 (crd a t) (a.1 4))).trans ((cond2_iff (crd a t) (wF a.1 (crd a t 0))).2 hw)

omit hg in
theorem condF' (t : Fin (cfg0 a).N) (hw : wF a.1 (crd a t 0) = 1#32) : ¬ k0_cond3 (crd a t) (View.readAt (Elt F) tb4.view (Rect.unit (s := S263) (k0_off3 (crd a t)) S1.size (k0_off3_inb (crd a t))).toLoadRect (a.1 4) (Shape.Idx.first (numel1_S1.symm ▸ Nat.one_pos))) = 1#1 := by
  exact fun h => absurd (hw.symm.trans ((cond3_iff (crd a t) (wF a.1 (crd a t 0))).1 ((congrArg (k0_cond3 (crd a t)) (word4' (crd a t) (a.1 4))).symm.trans h))) (by decide)

omit hg in
theorem condZ (t : Fin (cfg0 a).N) (hw : wF a.1 (crd a t 0) = 0#32) : k0_cond3 (crd a t) (View.readAt (Elt F) tb4.view (Rect.unit (s := S263) (k0_off3 (crd a t)) S1.size (k0_off3_inb (crd a t))).toLoadRect (a.1 4) (Shape.Idx.first (numel1_S1.symm ▸ Nat.one_pos))) = 1#1 := by
  exact (congrArg (k0_cond3 (crd a t)) (word4' (crd a t) (a.1 4))).trans ((cond3_iff (crd a t) (wF a.1 (crd a t 0))).2 hw)

omit hg in
theorem condZ' (t : Fin (cfg0 a).N) (hw : wF a.1 (crd a t 0) = 0#32) : ¬ k0_cond2 (crd a t) (View.readAt (Elt F) tb4.view (Rect.unit (s := S263) (k0_off2 (crd a t)) S1.size (k0_off2_inb (crd a t))).toLoadRect (a.1 4) (Shape.Idx.first (numel1_S1.symm ▸ Nat.one_pos))) = 1#1 := by
  exact fun h => absurd (hw.symm.trans ((cond2_iff (crd a t) (wF a.1 (crd a t 0))).1 ((congrArg (k0_cond2 (crd a t)) (word4 (crd a t) (a.1 4))).symm.trans h))) (by decide)

/-- Past the last visit the tile is the one of the point before. -/
theorem same_of_tail (t : Fin (cfg0 a).N) (h0 : t.val ≠ 0) (hn : (wN a.1).toNat ≤ t.val) :
    wT a.1 ⟨t.val, t.isLt.trans_eq N_0⟩ = wT a.1 ⟨t.val - 1, by have := t.isLt.trans_eq N_0; omega⟩ := by
  obtain ⟨n, hl⟩ := t
  cases n with
  | zero => exact absurd rfl h0
  | succ n => exact hg.tail n (hl.trans_eq N_0) hn

/-- A visit whose word is zero is not the first, and its tile is the one of the point before. -/
theorem same_of_zero (t : Fin (cfg0 a).N) (hw : wF a.1 (crd a t 0) = 0#32) :
    t.val ≠ 0 ∧ wT a.1 ⟨t.val, t.isLt.trans_eq N_0⟩ = wT a.1 ⟨t.val - 1, by have := t.isLt.trans_eq N_0; omega⟩ := by
  rw [crd_eq] at hw
  obtain ⟨n, hl⟩ := t
  cases n with
  | zero => exact absurd (hw.symm.trans hg.first_zero) (by decide)
  | succ n =>
    refine ⟨Nat.succ_ne_zero n, ?_⟩
    have h1 := (hg.first_succ n (hl.trans_eq N_0)).symm.trans hw
    by_contra hne
    exact absurd ((if_neg hne).symm.trans h1) (by decide)

theorem traj_later (c : Dev nD) (t : Fin (cfg0 a).N) (h0 : t.val ≠ 0) (hlt : t.val < (wN a.1).toNat) (hw : wF a.1 (crd a t 0) = 0#32) :
    traj a V c t.val t.isLt = k0_pay2 (wL a.1 (crd a t 0)) (wH a.1 (crd a t 0)) (yblk a V c t) (traj a V c (t.val - 1) (by omega)) := by
  rw [traj_succ a V hg c t h0]; unfold step
  rw [if_pos hlt, if_neg (by rw [hw]; decide)]

/-! ## The body at a point -/

theorem traj_later' (c : Dev nD) (t : Fin (cfg0 a).N) (h0 : t.val ≠ 0) (hlt : t.val < (wN a.1).toNat) (hw : wF a.1 (crd a t 0) = 0#32) :
    traj a V c t.val t.isLt = k0_pay2 (View.readAt (Elt F) tb2.view (Rect.unit (s := S263) (k0_off4 (crd a t)) S1.size (k0_off4_inb (crd a t))).toLoadRect (a.1 2) (Shape.Idx.first (numel1_S1.symm ▸ Nat.one_pos))) (View.readAt (Elt F) tb3.view (Rect.unit (s := S263) (k0_off4 (crd a t)) S1.size (k0_off4_inb (crd a t))).toLoadRect (a.1 3) (Shape.Idx.first (numel1_S1.symm ▸ Nat.one_pos))) (k0_pay1 (iblk a V c (0 : Fin 5) t) (iblk a V c (1 : Fin 5) t) (iblk a V c (2 : Fin 5) t) (iblk a V c (3 : Fin 5) t)) (traj a V c (t.val - 1) (by omega)) := by
  exact (traj_later a V hg c t h0 hlt hw).trans (congrArg₂ (fun x y => k0_pay2 x y (yblk a V c t) (traj a V c (t.val - 1) (by omega))) (word2 (crd a t) (a.1 2)).symm (word3 (crd a t) (a.1 3)).symm)

set_option maxHeartbeats 4000000 in
/-- The body at a first visit of a tile leaves what the proof data say. -/
theorem sound_A (c : Dev nD) (t : Fin (cfg0 a).N) (hlt : t.val < (wN a.1).toNat) (hw : wF a.1 (crd a t 0) = 1#32) :
    iprop((dats a V 0 c).Φ t.castSucc ∗ (dats a V 0 c).owesAt () t.castSucc
        ∗ (∃ d, owns (c : Thread nD τ) (ms0 a t) fullShare ((dats a V 0 c).before (0 : Fin 5) t d))
        ∗ (∃ d, owns (c : Thread nD τ) (ms1 a t) fullShare ((dats a V 0 c).before (1 : Fin 5) t d))
        ∗ (∃ d, owns (c : Thread nD τ) (ms2 a t) fullShare ((dats a V 0 c).before (2 : Fin 5) t d))
        ∗ (∃ d, owns (c : Thread nD τ) (ms3 a t) fullShare ((dats a V 0 c).before (3 : Fin 5) t d))
        ∗ (∃ d, owns (c : Thread nD τ) (ms4 a t) fullShare ((dats a V 0 c).before (4 : Fin 5) t d)))
      ⊢ wp frame (wpE (defs₀ (F := F)) Variants.none c none) Set.univ (bodyAt a t) fun _ => bodyPost a V c t := by
  unfold bodyPost
  rw [bigSep_W0]
  have i4 : (cfg0 a).idle (4 : Fin 5) ((cfg0 a).grid.coords t) = false := by rw [idle_iff a hg, decide_eq_false_iff_not]; omega
  rewrite [i4]
  simp only [before_0, before_1, before_2, before_3, after_0, after_1, after_2, after_3, after_4]
  rewrite [show (dats a V 0 c).owesAt () t.succ = (dats a V 0 c).owesAt () t.castSucc from rfl,
    show (dats a V 0 c).Φ t.succ = phi a c from rfl, show (dats a V 0 c).Φ t.castSucc = phi a c from rfl, phi_eq]
  iintro ⟨⟨⟨%a0, HS0⟩, Hg, HT0, HT1, HT2, HT3, HT4, HT5⟩, Ho, ⟨%d0, H0⟩, ⟨%d1, H1⟩, ⟨%d2, H2⟩, ⟨%d3, H3⟩, ⟨%d4, H4⟩⟩
  iapply ((runA c (crd a t) (ms0 a t) (hs0 a t) (ms1 a t) (hs1 a t) (ms2 a t) (hs2 a t) (ms3 a t) (hs3 a t) (ms4 a t) (hs4 a t) (a.1 0) (a.1 1) (a.1 2) (a.1 3) (a.1 4) (a.1 5) (iblk a V c (0 : Fin 5) t) (iblk a V c (1 : Fin 5) t) (iblk a V c (2 : Fin 5) t) (iblk a V c (3 : Fin 5) t) ((dats a V 0 c).before (4 : Fin 5) t d4) (condN a hg t hlt) (condF a t hw) (condF' a t hw)).2.2 a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [HT5]; · iexact HT5
  isplitl [H4]; · iapply rep_of_owns; iexact H4
  isplitl [HS0]; · iexact HS0
  iintro ⟨H0, H1, H2, H3, HT0, HT1, HT2, HT3, HT4, HT5, ⟨%e4, H4⟩, HS0⟩
  isplitl [HS0 Hg HT0 HT1 HT2 HT3 HT4 HT5]
  · isplitl [HS0]
    · iexists _; iexact HS0
    isplitl [Hg]; · iexact Hg
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    exact (read_runA c (crd a t) (ms0 a t) (hs0 a t) (ms1 a t) (hs1 a t) (ms2 a t) (hs2 a t) (ms3 a t) (hs3 a t) (ms4 a t) (hs4 a t) (a.1 0) (a.1 1) (a.1 2) (a.1 3) (a.1 4) (a.1 5) (iblk a V c (0 : Fin 5) t) (iblk a V c (1 : Fin 5) t) (iblk a V c (2 : Fin 5) t) (iblk a V c (3 : Fin 5) t) _ _ _ _ _).trans (traj_first a V hg c t hlt hw).symm

set_option maxHeartbeats 4000000 in
/-- The body at a later visit of a tile leaves what the proof data say. -/
theorem sound_B (c : Dev nD) (t : Fin (cfg0 a).N) (hlt : t.val < (wN a.1).toNat) (hw : wF a.1 (crd a t 0) = 0#32) :
    iprop((dats a V 0 c).Φ t.castSucc ∗ (dats a V 0 c).owesAt () t.castSucc
        ∗ (∃ d, owns (c : Thread nD τ) (ms0 a t) fullShare ((dats a V 0 c).before (0 : Fin 5) t d))
        ∗ (∃ d, owns (c : Thread nD τ) (ms1 a t) fullShare ((dats a V 0 c).before (1 : Fin 5) t d))
        ∗ (∃ d, owns (c : Thread nD τ) (ms2 a t) fullShare ((dats a V 0 c).before (2 : Fin 5) t d))
        ∗ (∃ d, owns (c : Thread nD τ) (ms3 a t) fullShare ((dats a V 0 c).before (3 : Fin 5) t d))
        ∗ (∃ d, owns (c : Thread nD τ) (ms4 a t) fullShare ((dats a V 0 c).before (4 : Fin 5) t d)))
      ⊢ wp frame (wpE (defs₀ (F := F)) Variants.none c none) Set.univ (bodyAt a t) fun _ => bodyPost a V c t := by
  unfold bodyPost
  rw [bigSep_W0]
  have i4 : (cfg0 a).idle (4 : Fin 5) ((cfg0 a).grid.coords t) = false := by rw [idle_iff a hg, decide_eq_false_iff_not]; omega
  obtain ⟨h0, hs⟩ := same_of_zero a hg t hw
  have e4 := before_4 a V hg c t h0 (by rw [crd_eq]; exact hs)
  rewrite [i4]
  simp only [before_0, before_1, before_2, before_3, after_0, after_1, after_2, after_3, after_4, e4]
  rewrite [show (dats a V 0 c).owesAt () t.succ = (dats a V 0 c).owesAt () t.castSucc from rfl,
    show (dats a V 0 c).Φ t.succ = phi a c from rfl, show (dats a V 0 c).Φ t.castSucc = phi a c from rfl, phi_eq]
  iintro ⟨⟨⟨%a0, HS0⟩, Hg, HT0, HT1, HT2, HT3, HT4, HT5⟩, Ho, ⟨%d0, H0⟩, ⟨%d1, H1⟩, ⟨%d2, H2⟩, ⟨%d3, H3⟩, ⟨%d4, H4⟩⟩
  iapply ((runB c (crd a t) (ms0 a t) (hs0 a t) (ms1 a t) (hs1 a t) (ms2 a t) (hs2 a t) (ms3 a t) (hs3 a t) (ms4 a t) (hs4 a t) (a.1 0) (a.1 1) (a.1 2) (a.1 3) (a.1 4) (a.1 5) (iblk a V c (0 : Fin 5) t) (iblk a V c (1 : Fin 5) t) (iblk a V c (2 : Fin 5) t) (iblk a V c (3 : Fin 5) t) (traj a V c (t.val - 1) (by omega)) (condN a hg t hlt) (condZ' a t hw) (condZ a t hw)).2.2 a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [HT5]; · iexact HT5
  isplitl [H4]; · iapply rep_of_owns; iexact H4
  isplitl [HS0]; · iexact HS0
  iintro ⟨H0, H1, H2, H3, HT0, HT1, HT2, HT3, HT4, HT5, ⟨%e4, H4⟩, HS0⟩
  isplitl [HS0 Hg HT0 HT1 HT2 HT3 HT4 HT5]
  · isplitl [HS0]
    · iexists _; iexact HS0
    isplitl [Hg]; · iexact Hg
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    exact (read_runB c (crd a t) (ms0 a t) (hs0 a t) (ms1 a t) (hs1 a t) (ms2 a t) (hs2 a t) (ms3 a t) (hs3 a t) (ms4 a t) (hs4 a t) (a.1 0) (a.1 1) (a.1 2) (a.1 3) (a.1 4) (a.1 5) (iblk a V c (0 : Fin 5) t) (iblk a V c (1 : Fin 5) t) (iblk a V c (2 : Fin 5) t) (iblk a V c (3 : Fin 5) t) _ _ _ _ _).trans (traj_later' a V hg c t h0 hlt hw).symm

set_option maxHeartbeats 4000000 in
/-- The body at a point past the last visit leaves what the proof data say. -/
theorem sound_C (c : Dev nD) (t : Fin (cfg0 a).N) (hlt : ¬ t.val < (wN a.1).toNat) :
    iprop((dats a V 0 c).Φ t.castSucc ∗ (dats a V 0 c).owesAt () t.castSucc
        ∗ (∃ d, owns (c : Thread nD τ) (ms0 a t) fullShare ((dats a V 0 c).before (0 : Fin 5) t d))
        ∗ (∃ d, owns (c : Thread nD τ) (ms1 a t) fullShare ((dats a V 0 c).before (1 : Fin 5) t d))
        ∗ (∃ d, owns (c : Thread nD τ) (ms2 a t) fullShare ((dats a V 0 c).before (2 : Fin 5) t d))
        ∗ (∃ d, owns (c : Thread nD τ) (ms3 a t) fullShare ((dats a V 0 c).before (3 : Fin 5) t d))
        ∗ (∃ d, owns (c : Thread nD τ) (ms4 a t) fullShare ((dats a V 0 c).before (4 : Fin 5) t d)))
      ⊢ wp frame (wpE (defs₀ (F := F)) Variants.none c none) Set.univ (bodyAt a t) fun _ => bodyPost a V c t := by
  unfold bodyPost
  rw [bigSep_W0]
  have i4 : (cfg0 a).idle (4 : Fin 5) ((cfg0 a).grid.coords t) = true := by rw [idle_iff a hg, decide_eq_true_iff]; omega
  have h0 : t.val ≠ 0 := by have := hg.np_pos; omega
  have e4 := before_4 a V hg c t h0 (by rw [crd_eq]; exact same_of_tail a hg t h0 (by omega))
  have ea : traj a V c t.val t.isLt = traj a V c (t.val - 1) (by omega) := by rw [traj_succ a V hg c t h0]; unfold step; rw [if_neg hlt]
  rewrite [i4]
  simp only [before_0, before_1, before_2, before_3, after_0, after_1, after_2, after_3, after_4, e4]
  rewrite [show (dats a V 0 c).owesAt () t.succ = (dats a V 0 c).owesAt () t.castSucc from rfl,
    show (dats a V 0 c).Φ t.succ = phi a c from rfl, show (dats a V 0 c).Φ t.castSucc = phi a c from rfl, phi_eq]
  iintro ⟨⟨⟨%a0, HS0⟩, Hg, HT0, HT1, HT2, HT3, HT4, HT5⟩, Ho, ⟨%d0, H0⟩, ⟨%d1, H1⟩, ⟨%d2, H2⟩, ⟨%d3, H3⟩, ⟨%d4, H4⟩⟩
  iapply ((runC c (crd a t) (ms0 a t) (hs0 a t) (ms1 a t) (hs1 a t) (ms2 a t) (hs2 a t) (ms3 a t) (hs3 a t) (ms4 a t) (hs4 a t) (a.1 0) (a.1 1) (a.1 2) (a.1 3) (a.1 4) (a.1 5) (iblk a V c (0 : Fin 5) t) (iblk a V c (1 : Fin 5) t) (iblk a V c (2 : Fin 5) t) (iblk a V c (3 : Fin 5) t) (traj a V c (t.val - 1) (by omega)) (condN' a hg t hlt)) a0 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [HT5]; · iexact HT5
  isplitl [H4]; · iapply rep_of_owns; iexact H4
  isplitl [HS0]; · iexact HS0
  iintro ⟨H0, H1, H2, H3, HT0, HT1, HT2, HT3, HT4, HT5, H4, HS0⟩
  isplitl [HS0 Hg HT0 HT1 HT2 HT3 HT4 HT5]
  · isplitl [HS0]
    · iexists _; iexact HS0
    isplitl [Hg]; · iexact Hg
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  cases ((cfg0 a).win (4 : Fin 5)).flush t
  · iexists d4; iapply owns_of_rep; iexact H4
  · rewrite [ea]; iapply owns_of_rep; iexact H4

/-- The body obligation at every point. -/
theorem body_obligation (c : Dev nD) : BodyObligation (dats a V 0 c) (defs₀ (F := F)) Variants.none () Set.univ := fun t => by
  rw [bigSep_W0]
  by_cases hlt : t.val < (wN a.1).toNat
  · rcases hg.first_cases (crd a t 0) with hw | hw
    · exact sound_A a V hg c t hlt hw
    · exact sound_B a V hg c t hlt hw
  · exact sound_C a V hg c t hlt

/-! ## The launch -/

set_option backward.isDefEq.respectTransparency.types false in
set_option maxHeartbeats 4000000 in
/-- From any memory whose tables, as the region finds them, are good: every execution terminates, every array of the call ends at what the proof data compute and everything else as the region found it, and every counter reads zero. -/
theorem launch (m : (ℓ : Loc nD τ sig) → Buf (Elt F) ℓ) (ρ : Dev nD → PrngReg)
    (hmain : Pipeline.HMainP (Ix := Unit) (Name := ℕ) (U := UR sig nD τ) (Lvl := ℕ) pcfgs 0 defs₀ Variants.none m (main (F := F)) V)
    (hpf : ∀ c k, V c (pre0.ref k) = a.1 k) :
    θ_run (defs (F := F)) (onTc (τ := τ) (main (F := F))) (s₀ m ρ)
      (fun r => Pipeline.FramePost (Pipeline.pin pcfgs fun _ => a) (dats a V) 0 V r ∧ r.2.sem = fun _ => 0) :=
  Pipeline.θ_run_frameP (Q' := _) pcfgs (fun _ => a) (dats a V) (0 : Fin 1) launch0 defs₀ Variants.none m ρ main
    (hbody := fun c => (body_obligation a V hg c).loose) (hshare := fun c => (dats a V 0 c).share_full fun _ => rfl)
    (howed := fun _ _ => rfl) (V := V) (hmain := hmain) (hA := fun _ _ => rfl) (hpf := hpf) (hΦ := fun _ _ => rfl)

end Cert.Exp

end
-- ==== Proof.ExpertsStages.lean ====
module

public import proofs.«01_k».proof.Proof.Gen.ExpertsIdeal.Launch
public import proofs.«01_k».proof.Proof.ExpertsHost
public import Idealize.ShloMosaic.Lib.StableHlo.RunRead

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the region finds -/

variable (V : Valuation τ sig (Elt F))

/-- The contents after the stretch _0 of the host operations, from contents `V`. -/
def GA : Valuation τ sig (Elt F) := StableHlo.after (hostOps0) V
/-- The contents after the stretch _1 and _2 of the host operations, from contents `V`. -/
def GB : Valuation τ sig (Elt F) := StableHlo.after (hostOps0_1 ++ hostOps0_2) V
/-- The contents after the stretch _3 and _4 of the host operations, from contents `V`. -/
def GC : Valuation τ sig (Elt F) := StableHlo.after (hostOps0_3 ++ hostOps0_4) V
/-- The contents after the stretch _5 and _6 of the host operations, from contents `V`. -/
def GD : Valuation τ sig (Elt F) := StableHlo.after (hostOps0_5 ++ hostOps0_6) V
/-- The contents after the stretch _7 of the host operations, from contents `V`. -/
def GE : Valuation τ sig (Elt F) := StableHlo.after (hostOps0_7) V
/-- The contents after the stretch _8 of the host operations, from contents `V`. -/
def GF : Valuation τ sig (Elt F) := StableHlo.after (hostOps0_8) V
/-- The contents after the stretch _9 of the host operations, from contents `V`. -/
def GG : Valuation τ sig (Elt F) := StableHlo.after (hostOps0_9) V
/-- The contents after the stretch _10 and _11 of the host operations, from contents `V`. -/
def GH : Valuation τ sig (Elt F) := StableHlo.after (hostOps0_10 ++ hostOps0_11) V
/-- The contents after the stretch _12 of the host operations, from contents `V`. -/
def GI : Valuation τ sig (Elt F) := StableHlo.after (hostOps0_12) V

set_option maxHeartbeats 1000000

theorem GA_arg0 : GA V (no_index (Proc.devRef .tc main_arg0)) = (V (Proc.devRef .tc main_arg0)) := by unfold GA; after_reads_simp
theorem GA_arg1 : GA V (no_index (Proc.devRef .tc main_arg1)) = (V (Proc.devRef .tc main_arg1)) := by unfold GA; after_reads_simp
theorem GA_arg2 : GA V (no_index (Proc.devRef .tc main_arg2)) = (V (Proc.devRef .tc main_arg2)) := by unfold GA; after_reads_simp
theorem GA_arg3 : GA V (no_index (Proc.devRef .tc main_arg3)) = (V (Proc.devRef .tc main_arg3)) := by unfold GA; after_reads_simp
theorem GA_arg4 : GA V (no_index (Proc.devRef .tc main_arg4)) = (V (Proc.devRef .tc main_arg4)) := by unfold GA; after_reads_simp
theorem GA_v0 : GA V (no_index (Proc.devRef .tc main_v0)) = hCum (V (Proc.devRef .tc main_arg1) : S8.Idx → BitVec 32) := by
  unfold GA
  after_reads_simp
  all_goals (try simp only [StableHlo.TRef.ofBuf_toBuf, id_eq])
  all_goals rfl
theorem GB_v0 : GB V (no_index (Proc.devRef .tc main_v0)) = (V (Proc.devRef .tc main_v0)) := by unfold GB; after_reads_simp
theorem GB_arg0 : GB V (no_index (Proc.devRef .tc main_arg0)) = (V (Proc.devRef .tc main_arg0)) := by unfold GB; after_reads_simp
theorem GB_arg1 : GB V (no_index (Proc.devRef .tc main_arg1)) = (V (Proc.devRef .tc main_arg1)) := by unfold GB; after_reads_simp
theorem GB_arg2 : GB V (no_index (Proc.devRef .tc main_arg2)) = (V (Proc.devRef .tc main_arg2)) := by unfold GB; after_reads_simp
theorem GB_arg3 : GB V (no_index (Proc.devRef .tc main_arg3)) = (V (Proc.devRef .tc main_arg3)) := by unfold GB; after_reads_simp
theorem GB_arg4 : GB V (no_index (Proc.devRef .tc main_arg4)) = (V (Proc.devRef .tc main_arg4)) := by unfold GB; after_reads_simp
theorem GB_v1 : GB V (no_index (Proc.devRef .tc main_v1)) = subi (V (Proc.devRef .tc main_v0) : S8.Idx → BitVec 32) (V (Proc.devRef .tc main_arg1) : S8.Idx → BitVec 32) := by
  unfold GB
  after_reads_simp
  all_goals (try simp only [StableHlo.TRef.ofBuf_toBuf, id_eq])
  all_goals rfl
theorem GB_v2 : GB V (no_index (Proc.devRef .tc main_v2)) = hDiv (subi (V (Proc.devRef .tc main_v0) : S8.Idx → BitVec 32) (V (Proc.devRef .tc main_arg1) : S8.Idx → BitVec 32)) := by
  unfold GB
  after_reads_simp
  all_goals (try simp only [StableHlo.TRef.ofBuf_toBuf, id_eq])
  all_goals rfl
theorem GC_v0 : GC V (no_index (Proc.devRef .tc main_v0)) = (V (Proc.devRef .tc main_v0)) := by unfold GC; after_reads_simp
theorem GC_v1 : GC V (no_index (Proc.devRef .tc main_v1)) = (V (Proc.devRef .tc main_v1)) := by unfold GC; after_reads_simp
theorem GC_v2 : GC V (no_index (Proc.devRef .tc main_v2)) = (V (Proc.devRef .tc main_v2)) := by unfold GC; after_reads_simp
theorem GC_arg0 : GC V (no_index (Proc.devRef .tc main_arg0)) = (V (Proc.devRef .tc main_arg0)) := by unfold GC; after_reads_simp
theorem GC_arg1 : GC V (no_index (Proc.devRef .tc main_arg1)) = (V (Proc.devRef .tc main_arg1)) := by unfold GC; after_reads_simp
theorem GC_arg2 : GC V (no_index (Proc.devRef .tc main_arg2)) = (V (Proc.devRef .tc main_arg2)) := by unfold GC; after_reads_simp
theorem GC_arg3 : GC V (no_index (Proc.devRef .tc main_arg3)) = (V (Proc.devRef .tc main_arg3)) := by unfold GC; after_reads_simp
theorem GC_arg4 : GC V (no_index (Proc.devRef .tc main_arg4)) = (V (Proc.devRef .tc main_arg4)) := by unfold GC; after_reads_simp
theorem GC_v6 : GC V (no_index (Proc.devRef .tc main_v6)) = hDiv (maxsi (subi (V (Proc.devRef .tc main_v0) : S8.Idx → BitVec 32) (hB8 1#32)) (V (Proc.devRef .tc main_v1) : S8.Idx → BitVec 32)) := by
  unfold GC
  after_reads_simp
  all_goals (try simp only [StableHlo.TRef.ofBuf_toBuf, id_eq])
  all_goals rfl
theorem GD_v0 : GD V (no_index (Proc.devRef .tc main_v0)) = (V (Proc.devRef .tc main_v0)) := by unfold GD; after_reads_simp
theorem GD_v1 : GD V (no_index (Proc.devRef .tc main_v1)) = (V (Proc.devRef .tc main_v1)) := by unfold GD; after_reads_simp
theorem GD_v2 : GD V (no_index (Proc.devRef .tc main_v2)) = (V (Proc.devRef .tc main_v2)) := by unfold GD; after_reads_simp
theorem GD_arg0 : GD V (no_index (Proc.devRef .tc main_arg0)) = (V (Proc.devRef .tc main_arg0)) := by unfold GD; after_reads_simp
theorem GD_arg1 : GD V (no_index (Proc.devRef .tc main_arg1)) = (V (Proc.devRef .tc main_arg1)) := by unfold GD; after_reads_simp
theorem GD_arg2 : GD V (no_index (Proc.devRef .tc main_arg2)) = (V (Proc.devRef .tc main_arg2)) := by unfold GD; after_reads_simp
theorem GD_arg3 : GD V (no_index (Proc.devRef .tc main_arg3)) = (V (Proc.devRef .tc main_arg3)) := by unfold GD; after_reads_simp
theorem GD_arg4 : GD V (no_index (Proc.devRef .tc main_arg4)) = (V (Proc.devRef .tc main_arg4)) := by unfold GD; after_reads_simp
theorem GD_v12 : GD V (no_index (Proc.devRef .tc main_v12)) = select (cmpi .sgt (V (Proc.devRef .tc main_arg1) : S8.Idx → BitVec 32) (hB8 0#32)) (addi (subi (V (Proc.devRef .tc main_v6) : S8.Idx → BitVec 32) (V (Proc.devRef .tc main_v2) : S8.Idx → BitVec 32)) (hB8 1#32)) (hB8 0#32) := by
  unfold GD
  after_reads_simp
  all_goals (try simp only [StableHlo.TRef.ofBuf_toBuf, id_eq])
  all_goals rfl
theorem GE_v0 : GE V (no_index (Proc.devRef .tc main_v0)) = (V (Proc.devRef .tc main_v0)) := by unfold GE; after_reads_simp
theorem GE_v1 : GE V (no_index (Proc.devRef .tc main_v1)) = (V (Proc.devRef .tc main_v1)) := by unfold GE; after_reads_simp
theorem GE_v2 : GE V (no_index (Proc.devRef .tc main_v2)) = (V (Proc.devRef .tc main_v2)) := by unfold GE; after_reads_simp
theorem GE_v12 : GE V (no_index (Proc.devRef .tc main_v12)) = (V (Proc.devRef .tc main_v12)) := by unfold GE; after_reads_simp
theorem GE_arg0 : GE V (no_index (Proc.devRef .tc main_arg0)) = (V (Proc.devRef .tc main_arg0)) := by unfold GE; after_reads_simp
theorem GE_arg1 : GE V (no_index (Proc.devRef .tc main_arg1)) = (V (Proc.devRef .tc main_arg1)) := by unfold GE; after_reads_simp
theorem GE_arg2 : GE V (no_index (Proc.devRef .tc main_arg2)) = (V (Proc.devRef .tc main_arg2)) := by unfold GE; after_reads_simp
theorem GE_arg3 : GE V (no_index (Proc.devRef .tc main_arg3)) = (V (Proc.devRef .tc main_arg3)) := by unfold GE; after_reads_simp
theorem GE_arg4 : GE V (no_index (Proc.devRef .tc main_arg4)) = (V (Proc.devRef .tc main_arg4)) := by unfold GE; after_reads_simp
theorem GE_v13 : GE V (no_index (Proc.devRef .tc main_v13)) = hCum (V (Proc.devRef .tc main_v12) : S8.Idx → BitVec 32) := by
  unfold GE
  after_reads_simp
  all_goals (try simp only [StableHlo.TRef.ofBuf_toBuf, id_eq])
  all_goals rfl
theorem GG_v29 : GG V (no_index (Proc.devRef .tc main_v29)) = (V (Proc.devRef .tc main_v29)) := by unfold GG; after_reads_simp
theorem GG_v53 : GG V (no_index (Proc.devRef .tc main_v53)) = (V (Proc.devRef .tc main_v53)) := by unfold GG; after_reads_simp
theorem GG_v0 : GG V (no_index (Proc.devRef .tc main_v0)) = (V (Proc.devRef .tc main_v0)) := by unfold GG; after_reads_simp
theorem GG_v15 : GG V (no_index (Proc.devRef .tc main_v15)) = (V (Proc.devRef .tc main_v15)) := by unfold GG; after_reads_simp
theorem GG_arg0 : GG V (no_index (Proc.devRef .tc main_arg0)) = (V (Proc.devRef .tc main_arg0)) := by unfold GG; after_reads_simp
theorem GG_arg1 : GG V (no_index (Proc.devRef .tc main_arg1)) = (V (Proc.devRef .tc main_arg1)) := by unfold GG; after_reads_simp
theorem GG_arg2 : GG V (no_index (Proc.devRef .tc main_arg2)) = (V (Proc.devRef .tc main_arg2)) := by unfold GG; after_reads_simp
theorem GG_arg3 : GG V (no_index (Proc.devRef .tc main_arg3)) = (V (Proc.devRef .tc main_arg3)) := by unfold GG; after_reads_simp
theorem GG_arg4 : GG V (no_index (Proc.devRef .tc main_arg4)) = (V (Proc.devRef .tc main_arg4)) := by unfold GG; after_reads_simp
theorem GG_v64 : GG V (no_index (Proc.devRef .tc main_v64)) = minsi (broadcastInDim S263 ![] bcast_S_S263 (V (Proc.devRef .tc main_c_19) : S_.Idx → BitVec 32)) (maxsi (broadcastInDim S263 ![] bcast_S_S263 (V (Proc.devRef .tc main_c_18) : S_.Idx → BitVec 32)) (V (Proc.devRef .tc main_v63) : S263.Idx → BitVec 32)) := by
  unfold GG
  after_reads_simp
  all_goals (try simp only [StableHlo.TRef.ofBuf_toBuf, id_eq])
  all_goals rfl
theorem GH_v29 : GH V (no_index (Proc.devRef .tc main_v29)) = (V (Proc.devRef .tc main_v29)) := by unfold GH; after_reads_simp
theorem GH_v53 : GH V (no_index (Proc.devRef .tc main_v53)) = (V (Proc.devRef .tc main_v53)) := by unfold GH; after_reads_simp
theorem GH_v64 : GH V (no_index (Proc.devRef .tc main_v64)) = (V (Proc.devRef .tc main_v64)) := by unfold GH; after_reads_simp
theorem GH_v15 : GH V (no_index (Proc.devRef .tc main_v15)) = (V (Proc.devRef .tc main_v15)) := by unfold GH; after_reads_simp
theorem GH_arg0 : GH V (no_index (Proc.devRef .tc main_arg0)) = (V (Proc.devRef .tc main_arg0)) := by unfold GH; after_reads_simp
theorem GH_arg1 : GH V (no_index (Proc.devRef .tc main_arg1)) = (V (Proc.devRef .tc main_arg1)) := by unfold GH; after_reads_simp
theorem GH_arg2 : GH V (no_index (Proc.devRef .tc main_arg2)) = (V (Proc.devRef .tc main_arg2)) := by unfold GH; after_reads_simp
theorem GH_arg3 : GH V (no_index (Proc.devRef .tc main_arg3)) = (V (Proc.devRef .tc main_arg3)) := by unfold GH; after_reads_simp
theorem GH_arg4 : GH V (no_index (Proc.devRef .tc main_arg4)) = (V (Proc.devRef .tc main_arg4)) := by unfold GH; after_reads_simp
theorem GH_v75 : GH V (no_index (Proc.devRef .tc main_v75)) = hClip (V (Proc.devRef .tc main_v53) : S263.Idx → BitVec 32) (hTake (V (Proc.devRef .tc main_v29) : S263.Idx → BitVec 32) (V (Proc.devRef .tc main_v0) : S8.Idx → BitVec 32)) := by
  unfold GH
  after_reads_simp
  all_goals (try simp only [StableHlo.TRef.ofBuf_toBuf, id_eq])
  all_goals rfl
theorem GI_v29 : GI V (no_index (Proc.devRef .tc main_v29)) = (V (Proc.devRef .tc main_v29)) := by unfold GI; after_reads_simp
theorem GI_v53 : GI V (no_index (Proc.devRef .tc main_v53)) = (V (Proc.devRef .tc main_v53)) := by unfold GI; after_reads_simp
theorem GI_v64 : GI V (no_index (Proc.devRef .tc main_v64)) = (V (Proc.devRef .tc main_v64)) := by unfold GI; after_reads_simp
theorem GI_v75 : GI V (no_index (Proc.devRef .tc main_v75)) = (V (Proc.devRef .tc main_v75)) := by unfold GI; after_reads_simp
theorem GI_arg0 : GI V (no_index (Proc.devRef .tc main_arg0)) = (V (Proc.devRef .tc main_arg0)) := by unfold GI; after_reads_simp
theorem GI_arg1 : GI V (no_index (Proc.devRef .tc main_arg1)) = (V (Proc.devRef .tc main_arg1)) := by unfold GI; after_reads_simp
theorem GI_arg2 : GI V (no_index (Proc.devRef .tc main_arg2)) = (V (Proc.devRef .tc main_arg2)) := by unfold GI; after_reads_simp
theorem GI_arg3 : GI V (no_index (Proc.devRef .tc main_arg3)) = (V (Proc.devRef .tc main_arg3)) := by unfold GI; after_reads_simp
theorem GI_arg4 : GI V (no_index (Proc.devRef .tc main_arg4)) = (V (Proc.devRef .tc main_arg4)) := by unfold GI; after_reads_simp
theorem GI_v81 : GI V (no_index (Proc.devRef .tc main_v81)) = hF (V (Proc.devRef .tc main_v53) : S263.Idx → BitVec 32) := by
  unfold GI
  after_reads_simp
  all_goals (try simp only [StableHlo.TRef.ofBuf_toBuf, id_eq])
  all_goals rfl
theorem GI_v82 : GI V (no_index (Proc.devRef .tc main_v82)) = shapeCast S1 (V (Proc.devRef .tc main_v15) : S_.Idx → BitVec 32) shapeCasts_S_S1 := by
  unfold GI
  after_reads_simp
  all_goals (try simp only [StableHlo.TRef.ofBuf_toBuf, id_eq])
  all_goals rfl
theorem GI_v83 : GI V (no_index (Proc.devRef .tc main_v83)) = truncf .bf16 (V (Proc.devRef .tc main_arg2)) bitsLt_bf16_f32 := by
  unfold GI
  after_reads_simp
  all_goals (try simp only [StableHlo.TRef.ofBuf_toBuf, id_eq])
  all_goals rfl
theorem GI_v84 : GI V (no_index (Proc.devRef .tc main_v84)) = truncf .bf16 (V (Proc.devRef .tc main_arg3)) bitsLt_bf16_f32 := by
  unfold GI
  after_reads_simp
  all_goals (try simp only [StableHlo.TRef.ofBuf_toBuf, id_eq])
  all_goals rfl
theorem GI_v85 : GI V (no_index (Proc.devRef .tc main_v85)) = truncf .bf16 (V (Proc.devRef .tc main_arg4)) bitsLt_bf16_f32 := by
  unfold GI
  after_reads_simp
  all_goals (try simp only [StableHlo.TRef.ofBuf_toBuf, id_eq])
  all_goals rfl

end Cert.Exp

end
-- ==== Proof.ExpertsStagesF.lean ====
module

public import proofs.«01_k».proof.Proof.Gen.ExpertsIdeal.Launch
public import proofs.«01_k».proof.Proof.ExpertsStages
public import Idealize.ShloMosaic.Lib.StableHlo.RunRead

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the region finds -/

variable (V : Valuation τ sig (Elt F))

set_option maxHeartbeats 2000000

theorem GF_v0 : GF V (no_index (Proc.devRef .tc main_v0)) = (V (Proc.devRef .tc main_v0)) := by unfold GF; after_reads_simp
theorem GF_arg0 : GF V (no_index (Proc.devRef .tc main_arg0)) = (V (Proc.devRef .tc main_arg0)) := by unfold GF; after_reads_simp
theorem GF_arg1 : GF V (no_index (Proc.devRef .tc main_arg1)) = (V (Proc.devRef .tc main_arg1)) := by unfold GF; after_reads_simp
theorem GF_arg2 : GF V (no_index (Proc.devRef .tc main_arg2)) = (V (Proc.devRef .tc main_arg2)) := by unfold GF; after_reads_simp
theorem GF_arg3 : GF V (no_index (Proc.devRef .tc main_arg3)) = (V (Proc.devRef .tc main_arg3)) := by unfold GF; after_reads_simp
theorem GF_arg4 : GF V (no_index (Proc.devRef .tc main_arg4)) = (V (Proc.devRef .tc main_arg4)) := by unfold GF; after_reads_simp
theorem GF_v15 : GF V (no_index (Proc.devRef .tc main_v15)) = hN0 (V (Proc.devRef .tc main_v13) : S8.Idx → BitVec 32) := by
  unfold GF
  after_reads_simp
  all_goals (try simp only [StableHlo.TRef.ofBuf_toBuf, id_eq])
  all_goals rfl
theorem GF_v29 : GF V (no_index (Proc.devRef .tc main_v29)) = hE (V (Proc.devRef .tc main_v13) : S8.Idx → BitVec 32) := by
  unfold GF
  after_reads_simp
  all_goals (try simp only [StableHlo.TRef.ofBuf_toBuf, id_eq])
  all_goals rfl
theorem GF_v53 : GF V (no_index (Proc.devRef .tc main_v53)) = hTileW (V (Proc.devRef .tc main_v2) : S8.Idx → BitVec 32) (V (Proc.devRef .tc main_v12) : S8.Idx → BitVec 32) (V (Proc.devRef .tc main_v13) : S8.Idx → BitVec 32) := by
  unfold GF
  after_reads_simp
  all_goals (try simp only [StableHlo.TRef.ofBuf_toBuf, id_eq])
  all_goals rfl
theorem GF_v63 : GF V (no_index (Proc.devRef .tc main_v63)) = subi (hTake (hE (V (Proc.devRef .tc main_v13) : S8.Idx → BitVec 32)) (V (Proc.devRef .tc main_v1) : S8.Idx → BitVec 32)) (muli (hTileW (V (Proc.devRef .tc main_v2) : S8.Idx → BitVec 32) (V (Proc.devRef .tc main_v12) : S8.Idx → BitVec 32) (V (Proc.devRef .tc main_v13) : S8.Idx → BitVec 32)) (hB 512#32)) := by
  unfold GF
  after_reads_simp
  all_goals (try simp only [StableHlo.TRef.ofBuf_toBuf, id_eq])
  all_goals rfl
theorem GF_c_18 : GF V (no_index (Proc.devRef .tc main_c_18)) = constantI S_ 32 0#32 := by
  unfold GF
  after_reads_simp
  all_goals (try simp only [StableHlo.TRef.ofBuf_toBuf, id_eq])
  all_goals rfl
theorem GF_c_19 : GF V (no_index (Proc.devRef .tc main_c_19)) = constantI S_ 32 512#32 := by
  unfold GF
  after_reads_simp
  all_goals (try simp only [StableHlo.TRef.ofBuf_toBuf, id_eq])
  all_goals rfl

end Cert.Exp

end
-- ==== Proof.ExpertsTables.lean ====
module

public import proofs.«01_k».proof.Proof.ExpertsFrame
public import proofs.«01_k».proof.Proof.ExpertsHost
public import proofs.«01_k».proof.Proof.ExpertsStagesF
public import proofs.«01_k».proof.Proof.ExpertsSched

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

/-! ## What the region finds -/

variable (m : (ℓ : Loc nD τ sig) → Buf (Elt F) ℓ)

/-- The contents of a buffer when the call starts. -/
def Vent (c : Dev nD) (b : Ref sig .tc) : Buf (Elt F) ((c.tc : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

/-- The counts as given. -/
abbrev cntOf (c : Dev nD) : S8.Idx → BitVec 32 := m ((c : Thread nD τ).loc main_arg1)

/-- The contents when the call starts, stretch by stretch. -/
theorem Vent_eq (c : Dev nD) (b : Ref sig .tc) :
    Vent m c b = GI (GH (GG (GF (GE (GD (GC (GB (GA (fun b => m (c, b)))))))))) (Proc.devRef .tc b) := by
  unfold Vent GI GH GG GF GE GD GC GB GA
  simp only [List.flatten_cons, List.flatten_nil, List.append_nil, StableHlo.after_append]

set_option maxHeartbeats 1000000

/-- An argument's array, as given. -/
theorem Vent_main_arg0 (c : Dev nD) : Vent m c main_arg0 = m ((c : Thread nD τ).loc main_arg0) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- An argument's array, as given. -/
theorem Vent_main_arg1 (c : Dev nD) : Vent m c main_arg1 = m ((c : Thread nD τ).loc main_arg1) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- An argument's array, as given. -/
theorem Vent_main_arg2 (c : Dev nD) : Vent m c main_arg2 = m ((c : Thread nD τ).loc main_arg2) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- An argument's array, as given. -/
theorem Vent_main_arg3 (c : Dev nD) : Vent m c main_arg3 = m ((c : Thread nD τ).loc main_arg3) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- An argument's array, as given. -/
theorem Vent_main_arg4 (c : Dev nD) : Vent m c main_arg4 = m ((c : Thread nD τ).loc main_arg4) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- A weight array, narrowed. -/
theorem Vent_main_v83 (c : Dev nD) : Vent m c main_v83 = truncf .bf16 (m ((c : Thread nD τ).loc main_arg2)) bitsLt_bf16_f32 := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- A weight array, narrowed. -/
theorem Vent_main_v84 (c : Dev nD) : Vent m c main_v84 = truncf .bf16 (m ((c : Thread nD τ).loc main_arg3)) bitsLt_bf16_f32 := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- A weight array, narrowed. -/
theorem Vent_main_v85 (c : Dev nD) : Vent m c main_v85 = truncf .bf16 (m ((c : Thread nD τ).loc main_arg4)) bitsLt_bf16_f32 := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- The experts of the points. -/
theorem Vent_main_v29 (c : Dev nD) : Vent m c main_v29 = hE (hVe (cntOf m c)) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- The tiles of the points. -/
theorem Vent_main_v53 (c : Dev nD) : Vent m c main_v53 = hT (cntOf m c) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- The first rows of the points. -/
theorem Vent_main_v64 (c : Dev nD) : Vent m c main_v64 = hL (cntOf m c) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- The rows after the last of the points. -/
theorem Vent_main_v75 (c : Dev nD) : Vent m c main_v75 = hH (cntOf m c) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- The marks of the first points of the tiles. -/
theorem Vent_main_v81 (c : Dev nD) : Vent m c main_v81 = hF (hT (cntOf m c)) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl
/-- The number of visits. -/
theorem Vent_main_v82 (c : Dev nD) : Vent m c main_v82 = hN (cntOf m c) := by
  rw [Vent_eq]; simp only [GA_arg0, GA_arg1, GA_arg2, GA_arg3, GA_arg4, GA_v0, GB_v0, GB_arg0, GB_arg1, GB_arg2, GB_arg3, GB_arg4, GB_v1, GB_v2, GC_v0, GC_v1, GC_v2, GC_arg0, GC_arg1, GC_arg2, GC_arg3, GC_arg4, GC_v6, GD_v0, GD_v1, GD_v2, GD_arg0, GD_arg1, GD_arg2, GD_arg3, GD_arg4, GD_v12, GE_v0, GE_v1, GE_v2, GE_v12, GE_arg0, GE_arg1, GE_arg2, GE_arg3, GE_arg4, GE_v13, GG_v29, GG_v53, GG_v0, GG_v15, GG_arg0, GG_arg1, GG_arg2, GG_arg3, GG_arg4, GG_v64, GH_v29, GH_v53, GH_v64, GH_v15, GH_arg0, GH_arg1, GH_arg2, GH_arg3, GH_arg4, GH_v75, GI_v29, GI_v53, GI_v64, GI_v75, GI_arg0, GI_arg1, GI_arg2, GI_arg3, GI_arg4, GI_v81, GI_v82, GI_v83, GI_v84, GI_v85, GF_v0, GF_arg0, GF_arg1, GF_arg2, GF_arg3, GF_arg4, GF_v15, GF_v29, GF_v53, GF_v63, GF_c_18, GF_c_19]
  try rfl

end Cert.Exp

end
-- ==== Proof.ExpertsLaunch.lean ====
/- The experts' call from its prepared arrays: its look-ups are a good work list, and the run of the call. -/
module

public import proofs.«01_k».proof.Proof.ExpertsTables

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

variable (m : (ℓ : Loc nD τ sig) → Buf (Elt F) ℓ)

/-- The look-ups the call starts with. -/
def tbl : pre0.Contents (Elt F) := fun k => Vent m 0 (pre0.ref k)

variable (k : ℕ → ℕ) (hx : ∀ i : Fin 8, cntOf m 0 (ValueIdx.ix1 i) = BitVec.ofNat 32 (k i.val)) (hs : Cert.Sched.en k 7 = 131072)

theorem tbl_E : wE (tbl m) = fun j => hE (hVe (cntOf m 0)) (ValueIdx.ix1 j) := funext fun j => congrFun (Vent_main_v29 m 0) (ValueIdx.ix1 j)
theorem tbl_T : wT (tbl m) = fun j => hT (cntOf m 0) (ValueIdx.ix1 j) := funext fun j => congrFun (Vent_main_v53 m 0) (ValueIdx.ix1 j)
theorem tbl_L : wL (tbl m) = fun j => hL (cntOf m 0) (ValueIdx.ix1 j) := funext fun j => congrFun (Vent_main_v64 m 0) (ValueIdx.ix1 j)
theorem tbl_H : wH (tbl m) = fun j => hH (cntOf m 0) (ValueIdx.ix1 j) := funext fun j => congrFun (Vent_main_v75 m 0) (ValueIdx.ix1 j)
theorem tbl_F : wF (tbl m) = fun j => hF (hT (cntOf m 0)) (ValueIdx.ix1 j) := funext fun j => congrFun (Vent_main_v81 m 0) (ValueIdx.ix1 j)
theorem tbl_N : wN (tbl m) = hN (cntOf m 0) (ValueIdx.ix1 (0 : Fin 1)) := congrFun (Vent_main_v82 m 0) (ValueIdx.ix1 (0 : Fin 1))

/-- A small number's word has that number. -/
theorem nat_word {a : ℕ} (h : a < 2 ^ 32) : (BitVec.ofNat 32 a).toNat = a := by
  rw [BitVec.toNat_ofNat]; exact Nat.mod_eq_of_lt h

include hx hs

/-- The number of visits. -/
theorem tbl_np : (wN (tbl m)).toNat = Cert.Sched.np k := by
  rw [tbl_N, hN_at _ k hx hs]
  exact nat_word (by have := Cert.Sched.np_le k hs; omega)

/-- The tile of a visit. -/
theorem tbl_tile (j : Fin 263) : wT (tbl m) j = BitVec.ofNat 32 (Cert.Sched.tile k j.val) := by
  rw [tbl_T]; exact hT_at _ k hx hs j

/-- The tile of a visit, as a number. -/
theorem tbl_tile_nat (j : Fin 263) : (wT (tbl m) j).toNat = Cert.Sched.tile k j.val := by
  rw [tbl_tile m k hx hs]
  exact nat_word (by have := Cert.Sched.tile_lt k hs j.val; omega)

/-- The expert of a visit, as a number. -/
theorem tbl_expert_nat (j : Fin 263) : (wE (tbl m) j).toNat = Cert.Sched.ex k j.val := by
  rw [tbl_E]
  show (hE (hVe (cntOf m 0)) (ValueIdx.ix1 j)).toNat = _
  rw [hE_at _ k hx hs j]
  exact nat_word (by have := Cert.Sched.ex_lt k j.val; omega)

/-- The first row of a visit in its tile. -/
theorem tbl_lo (j : Fin 263) : wL (tbl m) j
    = BitVec.ofNat 32 (min 512 (Cert.Sched.off k (Cert.Sched.ex k j.val) - Cert.Sched.tile k j.val * 512)) := by
  rw [tbl_L]; exact hL_at _ k hx hs j

/-- The row of its tile after a visit's last. -/
theorem tbl_hi (j : Fin 263) : wH (tbl m) j
    = BitVec.ofNat 32 (min 512 (Cert.Sched.en k (Cert.Sched.ex k j.val) - Cert.Sched.tile k j.val * 512)) := by
  rw [tbl_H]; exact hH_at _ k hx hs j

/-- The look-ups are a good work list where the counts sum to the rows. -/
theorem tbl_good : Good (tbl m) where
  np_pos := by rw [tbl_np m k hx hs]; exact Cert.Sched.np_pos k hs
  np_le := by rw [tbl_np m k hx hs]; exact Cert.Sched.np_le k hs
  tile_lt j := by rw [tbl_tile_nat m k hx hs]; exact Cert.Sched.tile_lt k hs _
  expert_lt j := by rw [tbl_expert_nat m k hx hs]; exact Cert.Sched.ex_lt k _
  first_zero := by rw [tbl_F]; exact hF_zero _
  first_succ j h := by rw [tbl_F, tbl_T]; exact hF_succ k _ j h
  tail j h hn := by
    rw [tbl_np m k hx hs] at hn
    rw [tbl_tile m k hx hs, tbl_tile m k hx hs]
    exact congrArg _ (Cert.Sched.tile_tail k hn)

omit hx hs

/-- No host operation makes a buffer. -/
theorem host_fresh : ([hostOps0, hostOps0_1, hostOps0_2, hostOps0_3, hostOps0_4, hostOps0_5, hostOps0_6, hostOps0_7, hostOps0_8, hostOps0_9, hostOps0_10, hostOps0_11, hostOps0_12] : List (List (HloOp τ sig (Elt F)))).Forall fun ops => ops.Forall fun op => op.fresh = ∅ := by
  simp only [List.Forall]; repeat' constructor

/-- The program is its host operations and then the call. -/
theorem hmain : Pipeline.HMainP (Ix := Unit) (Name := ℕ) (U := UR sig nD τ) (Lvl := ℕ) pcfgs 0 defs₀ Variants.none m (main (F := F)) (Vent m) :=
  Pipeline.hmainP_prefixes pcfgs 0 defs₀ Variants.none m main
    [hostOps0, hostOps0_1, hostOps0_2, hostOps0_3, hostOps0_4, hostOps0_5, hostOps0_6, hostOps0_7, hostOps0_8, hostOps0_9, hostOps0_10, hostOps0_11, hostOps0_12]
    (by simp only [List.Forall]
        exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    host_fresh main_chain

/-- The look-ups with the bounds they keep. -/
def adm (hg : Good (tbl m)) : (pcfg0 (F := F)).Adm := ⟨tbl m, hg.ok⟩

/-- The run of the program: what every buffer holds at its end. -/
theorem run_main (hg : Good (tbl m)) (ρ : Dev nD → PrngReg) :
    θ_run (defs (F := F)) (onTc (τ := τ) (main (F := F))) (s₀ m ρ) (fun r =>
      Pipeline.FramePost (Pipeline.pin pcfgs fun _ => adm m hg) (dats (adm m hg) (Vent m)) 0 (Vent m) r ∧ r.2.sem = fun _ => 0) :=
  launch (adm m hg) (Vent m) hg m ρ (hmain m) (fun c i => by
    obtain rfl : c = 0 := Subsingleton.elim _ _
    rfl)

/-- The call moves no block of this argument. -/
theorem rest_1 (hg : Good (tbl m)) : main_arg1 ∈ Pipeline.restRefs sig ((Pipeline.pin pcfgs fun _ => adm m hg) 0).spec :=
  Pipeline.mem_restRefs_of main_arg1 (by decide) (show ∀ w : Fin 5, (spec0 w).arr.view.ref ≠ main_arg1 by decide)

/-- The call moves no block of this argument. -/
theorem rest_2 (hg : Good (tbl m)) : main_arg2 ∈ Pipeline.restRefs sig ((Pipeline.pin pcfgs fun _ => adm m hg) 0).spec :=
  Pipeline.mem_restRefs_of main_arg2 (by decide) (show ∀ w : Fin 5, (spec0 w).arr.view.ref ≠ main_arg2 by decide)

/-- The call moves no block of this argument. -/
theorem rest_3 (hg : Good (tbl m)) : main_arg3 ∈ Pipeline.restRefs sig ((Pipeline.pin pcfgs fun _ => adm m hg) 0).spec :=
  Pipeline.mem_restRefs_of main_arg3 (by decide) (show ∀ w : Fin 5, (spec0 w).arr.view.ref ≠ main_arg3 by decide)

/-- The call moves no block of this argument. -/
theorem rest_4 (hg : Good (tbl m)) : main_arg4 ∈ Pipeline.restRefs sig ((Pipeline.pin pcfgs fun _ => adm m hg) 0).spec :=
  Pipeline.mem_restRefs_of main_arg4 (by decide) (show ∀ w : Fin 5, (spec0 w).arr.view.ref ≠ main_arg4 by decide)

/-- The run leaves the arguments unchanged and every counter at zero. -/
theorem frame (hg : Good (tbl m)) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c => ⟨
    ((h.1 c).1 0).trans (((dats (adm m hg) (Vent m) 0 c).arrAt_in 0 rfl _).trans (Vent_main_arg0 m c)),
    ((h.1 c).2 main_arg1 (rest_1 m hg)).trans (Vent_main_arg1 m c),
    ((h.1 c).2 main_arg2 (rest_2 m hg)).trans (Vent_main_arg2 m c),
    ((h.1 c).2 main_arg3 (rest_3 m hg)).trans (Vent_main_arg3 m c),
    ((h.1 c).2 main_arg4 (rest_4 m hg)).trans (Vent_main_arg4 m c)⟩, h.2⟩) (run_main m hg ρ)

end Cert.Exp
-- ==== Proof.ExpertsRows.lean ====
/- The result of the experts' call: every row is the feed-forward of its row through the matrices of the expert that owns it. -/
module

public import proofs.«01_k».proof.Proof.ExpertsLaunch
public import proofs.«01_k».proof.Proof.ExpertsSwiglu

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

/-- A visit that starts its tile leaves its block's rows. -/
theorem first_at (a : (pcfg0 (F := F)).Adm) (V : (c : Dev nD) → (b : Ref sig .tc) → Buf (Elt F) ((c.tc : Thread nD τ).loc b)) (hg : Good a.1) (c : Dev nD)
    (n : ℕ) (ht : n < (cfg0 a).N) (hl : n < 263) (hn : n < (wN a.1).toNat) (hw : wF a.1 ⟨n, hl⟩ = 1#32) : traj a V c n ht = yblk a V c ⟨n, ht⟩ :=
  traj_first a V hg c ⟨n, ht⟩ hn ((congrArg (wF a.1) (crd_eq a ⟨n, ht⟩)).trans hw)

/-- A visit that goes on with its tile leaves its rows between its bounds, and what the point before left elsewhere. -/
theorem later_at (a : (pcfg0 (F := F)).Adm) (V : (c : Dev nD) → (b : Ref sig .tc) → Buf (Elt F) ((c.tc : Thread nD τ).loc b)) (hg : Good a.1) (c : Dev nD)
    (n : ℕ) (ht : n + 1 < (cfg0 a).N) (hl : n + 1 < 263) (hn : n + 1 < (wN a.1).toNat) (hw : wF a.1 ⟨n + 1, hl⟩ = 0#32) (lo hi : ℕ)
    (hlo : wL a.1 ⟨n + 1, hl⟩ = BitVec.ofNat 32 lo) (hhi : wH a.1 ⟨n + 1, hl⟩ = BitVec.ofNat 32 hi) (hlo' : lo ≤ 512) (hhi' : hi ≤ 512) (r : Fin 512) (j : Fin 1024) :
    traj a V c (n + 1) ht (ix2 r j) = if lo ≤ r.val ∧ r.val < hi then yblk a V c ⟨n + 1, ht⟩ (ix2 r j) else traj a V c n (Nat.lt_of_succ_lt ht) (ix2 r j) := by
  have hcr := crd_eq a ⟨n + 1, ht⟩
  have h1 := traj_later a V hg c ⟨n + 1, ht⟩ (Nat.succ_ne_zero n) hn ((congrArg (wF a.1) hcr).trans hw)
  have h2 := congrArg₂ (fun x y => k0_pay2 x y (yblk a V c ⟨n + 1, ht⟩) (traj a V c n (Nat.lt_of_succ_lt ht)))
    ((congrArg (wL a.1) hcr).trans hlo) ((congrArg (wH a.1) hcr).trans hhi)
  exact (congrFun (h1.trans h2) (ix2 r j)).trans (pay2_at lo hi hlo' hhi' _ _ r j)

/-- A point past the last visit leaves what the point before left. -/
theorem idle_at (a : (pcfg0 (F := F)).Adm) (V : (c : Dev nD) → (b : Ref sig .tc) → Buf (Elt F) ((c.tc : Thread nD τ).loc b)) (c : Dev nD)
    (n : ℕ) (ht : n + 1 < (cfg0 a).N) (hn : ¬n + 1 < (wN a.1).toNat) : traj a V c (n + 1) ht = traj a V c n (Nat.lt_of_succ_lt ht) :=
  if_neg hn

/-- The look-ups are those of the work list over the counts `k`. -/
structure Follows (pf : pre0.Contents (Elt F)) (k : ℕ → ℕ) : Prop where
  total : Cert.Sched.en k 7 = 131072
  np : (wN pf).toNat = Cert.Sched.np k
  tile : ∀ j : Fin 263, wT pf j = BitVec.ofNat 32 (Cert.Sched.tile k j.val)
  expert : ∀ j : Fin 263, (wE pf j).toNat = Cert.Sched.ex k j.val
  lo : ∀ j : Fin 263, wL pf j = BitVec.ofNat 32 (min 512 (Cert.Sched.off k (Cert.Sched.ex k j.val) - Cert.Sched.tile k j.val * 512))
  hi : ∀ j : Fin 263, wH pf j = BitVec.ofNat 32 (min 512 (Cert.Sched.en k (Cert.Sched.ex k j.val) - Cert.Sched.tile k j.val * 512))

/-- The look-ups the program prepares follow the work list over its counts. -/
theorem tbl_follows (m : (ℓ : Loc nD τ sig) → Buf (Elt F) ℓ) (k : ℕ → ℕ) (hx : ∀ i : Fin 8, cntOf m 0 (ValueIdx.ix1 i) = BitVec.ofNat 32 (k i.val))
    (hs : Cert.Sched.en k 7 = 131072) : Follows (tbl m) k :=
  ⟨hs, tbl_np m k hx hs, tbl_tile m k hx hs, tbl_expert_nat m k hx hs, tbl_lo m k hx hs, tbl_hi m k hx hs⟩

variable (a : (pcfg0 (F := F)).Adm) (V : (c : Dev nD) → (b : Ref sig .tc) → Buf (Elt F) ((c.tc : Thread nD τ).loc b)) (k : ℕ → ℕ)
variable (hg : Good a.1) (hw : Follows a.1 k)

/-! ## The rows of a tile, visit by visit -/

/-- Later visits have later tiles. -/
theorem tile_le (k : ℕ → ℕ) (hs : Cert.Sched.en k 7 = 131072) {s t : ℕ} (h : s ≤ t) : Cert.Sched.tile k s ≤ Cert.Sched.tile k t := by
  induction h with
  | refl => exact Nat.le_refl _
  | step _ ih => exact Nat.le_trans ih (Cert.Sched.tile_mono k hs _)

/-- A row of a visit's tile lies between the visit's bounds where the visit's expert owns it. -/
theorem mine_iff {R T o e : ℕ} (h : T = R / 512) : (min 512 (o - T * 512) ≤ R % 512 ∧ R % 512 < min 512 (e - T * 512)) ↔ (o ≤ R ∧ R < e) := by
  omega

include hg hw in
/-- The word that starts a tile is zero where the tile is the one of the point before. -/
theorem first_zero_of_same (t : ℕ) (h : t + 1 < 263) (he : Cert.Sched.tile k (t + 1) = Cert.Sched.tile k t) : wF a.1 ⟨t + 1, h⟩ = 0#32 := by
  rw [hg.first_succ t h]
  refine if_pos ?_
  rw [hw.tile, hw.tile]
  exact congrArg _ he

include hg hw in
/-- From the visit that meets a row on, as long as the tile stays, the staging buffer holds the row's wanted value. -/
theorem traj_row (c : Dev nD) (R : ℕ) (j : Fin 1024) (want : Elt F .f32)
    (hy : ∀ t : Fin (cfg0 a).N, Cert.Sched.tile k t.val = R / 512 → Cert.Sched.off k (Cert.Sched.ex k t.val) ≤ R → R < Cert.Sched.en k (Cert.Sched.ex k t.val) →
      yblk a V c t (ix2 (⟨R % 512, Nat.mod_lt _ (by decide)⟩ : Fin 512) j) = want)
    (t0 : ℕ) (h0 : t0 < Cert.Sched.np k) (hT0 : Cert.Sched.tile k t0 = R / 512) (hlo : Cert.Sched.off k (Cert.Sched.ex k t0) ≤ R)
    (hhi : R < Cert.Sched.en k (Cert.Sched.ex k t0)) : ∀ (t : ℕ) (ht : t < (cfg0 a).N), t0 ≤ t → Cert.Sched.tile k t = R / 512 →
      traj a V c t ht (ix2 (⟨R % 512, Nat.mod_lt _ (by decide)⟩ : Fin 512) j) = want := by
  have hnp := hw.np
  intro t
  induction t with
  | zero =>
    intro ht h00 hT
    obtain rfl : t0 = 0 := by omega
    exact hy ⟨0, ht⟩ hT hlo hhi
  | succ n ih =>
    intro ht h00 hT
    have hl : n + 1 < 263 := ht.trans_eq N_0
    by_cases he : t0 = n + 1
    · subst he
      rcases hg.first_cases ⟨n + 1, hl⟩ with hf | hf
      · exact (congrFun (first_at a V hg c (n + 1) ht hl (h0.trans_eq hnp.symm) hf) _).trans (hy ⟨n + 1, ht⟩ hT hlo hhi)
      · refine (later_at a V hg c n ht hl (h0.trans_eq hnp.symm) hf _ _ (hw.lo _) (hw.hi _) (Nat.min_le_left _ _) (Nat.min_le_left _ _) _ j).trans ?_
        exact (if_pos ((mine_iff hT0).2 ⟨hlo, hhi⟩)).trans (hy ⟨n + 1, ht⟩ hT hlo hhi)
    · have hle : t0 ≤ n := by omega
      have h1 := tile_le k hw.total hle
      have h2 := tile_le k hw.total (show n ≤ n + 1 by omega)
      have hTn : Cert.Sched.tile k n = R / 512 := by omega
      have hprev := ih (Nat.lt_of_succ_lt ht) hle hTn
      by_cases hn : n + 1 < Cert.Sched.np k
      · have hf := first_zero_of_same a k hg hw n hl (by omega)
        refine (later_at a V hg c n ht hl (hn.trans_eq hnp.symm) hf _ _ (hw.lo _) (hw.hi _) (Nat.min_le_left _ _) (Nat.min_le_left _ _) _ j).trans ?_
        by_cases hm : Cert.Sched.off k (Cert.Sched.ex k (n + 1)) ≤ R ∧ R < Cert.Sched.en k (Cert.Sched.ex k (n + 1))
        · exact (if_pos ((mine_iff hT).2 hm)).trans (hy ⟨n + 1, ht⟩ hT hm.1 hm.2)
        · exact (if_neg (fun h => hm ((mine_iff hT).1 h))).trans hprev
      · exact (congrFun (idle_at a V c n ht (fun h => hn (h.trans_eq hnp))) _).trans hprev

end Cert.Exp
-- ==== Proof.ExpertsCover.lean ====
/- The result array of the experts' call: each tile's last visit writes it, and the tiles make up the array. -/
module

public import proofs.«01_k».proof.Proof.ExpertsRows
public import Idealize.ShloMosaic.Lib.Pipeline.ValueKit

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ t, Nonempty (Elt F t)]

/-- The tile a visit's word names. -/
theorem Follows.tile_nat {pf : pre0.Contents (Elt F)} {k : ℕ → ℕ} (hw : Follows pf k) (j : Fin 263) : (wT pf j).toNat = Cert.Sched.tile k j.val := by
  rw [hw.tile]
  exact nat_word (by have := Cert.Sched.tile_lt k hw.total j.val; omega)

variable (a : (pcfg0 (F := F)).Adm) (k : ℕ → ℕ) (hg : Good a.1) (hw : Follows a.1 k)

/-- The block of the result a point works on is its tile. -/
theorem idx4 (hw : Follows a.1 k) (t : Fin (cfg0 a).N) : ((cfg0 a).win (4 : Fin 5)).index t = ![Cert.Sched.tile k t.val, 0] := by
  rw [index_eq]
  exact congrArg (fun n : ℕ => (![n, 0] : Fin 2 → ℕ)) ((congrArg (fun j => (wT a.1 j).toNat) (crd_eq a t)).trans (hw.tile_nat _))

/-- The block of the rows a point reads is its tile. -/
theorem idx0 (hw : Follows a.1 k) (t : Fin (cfg0 a).N) : ((cfg0 a).win (0 : Fin 5)).index t = ![Cert.Sched.tile k t.val, 0] :=
  idx4 a k hw t

/-- The blocks of the matrices a point reads are its expert's. -/
theorem idx1 (hw : Follows a.1 k) (t : Fin (cfg0 a).N) : ((cfg0 a).win (1 : Fin 5)).index t = ![Cert.Sched.ex k t.val, 0, 0] :=
  (map_expert1 a.1 (crd a t)).trans
    (congrArg (fun n : ℕ => (![n, 0, 0] : Fin 3 → ℕ)) ((congrArg (fun j => (wE a.1 j).toNat) (crd_eq a t)).trans (hw.expert _)))

theorem idx2 (hw : Follows a.1 k) (t : Fin (cfg0 a).N) : ((cfg0 a).win (2 : Fin 5)).index t = ![Cert.Sched.ex k t.val, 0, 0] := idx1 a k hw t

theorem idx3 (hw : Follows a.1 k) (t : Fin (cfg0 a).N) : ((cfg0 a).win (3 : Fin 5)).index t = ![Cert.Sched.ex k t.val, 0, 0] :=
  (map_expert3 a.1 (crd a t)).trans
    (congrArg (fun n : ℕ => (![n, 0, 0] : Fin 3 → ℕ)) ((congrArg (fun j => (wE a.1 j).toNat) (crd_eq a t)).trans (hw.expert _)))

/-- A point writes its tile back where it is the last, or the tile changes after it. -/
theorem flush_tile (hw : Follows a.1 k) (t : Fin (cfg0 a).N) :
    ((cfg0 a).win (4 : Fin 5)).flush t = true ↔ t.val + 1 = 263 ∨ (t.val + 1 < 263 ∧ Cert.Sched.tile k (t.val + 1) ≠ Cert.Sched.tile k t.val) := by
  refine (flush_iff a t).trans (or_congr Iff.rfl ⟨fun ⟨h, hne⟩ => ⟨h, fun he => hne ?_⟩, fun ⟨h, hne⟩ => ⟨h, fun he => hne ?_⟩⟩)
  · rw [hw.tile, hw.tile]; exact congrArg _ he
  · exact (hw.tile_nat ⟨t.val + 1, h⟩).symm.trans ((congrArg BitVec.toNat he).trans (hw.tile_nat ⟨t.val, _⟩))

/-- A tile some point works on is written back by a point. -/
theorem flush_of_tile (hw : Follows a.1 k) (d : ℕ) : ∀ t : Fin (cfg0 a).N, t.val + d = 262 →
    ∃ t' : Fin (cfg0 a).N, ((cfg0 a).win (4 : Fin 5)).flush t' = true ∧ Cert.Sched.tile k t'.val = Cert.Sched.tile k t.val := by
  have hN : (cfg0 a).N = 263 := N_0
  induction d with
  | zero => exact fun t h => ⟨t, (flush_tile a k hw t).2 (.inl (by omega)), rfl⟩
  | succ d ih =>
    intro t h
    by_cases he : Cert.Sched.tile k (t.val + 1) = Cert.Sched.tile k t.val
    · obtain ⟨t', h1, h2⟩ := ih ⟨t.val + 1, by omega⟩ (by show t.val + 1 + d = 262; omega)
      exact ⟨t', h1, h2.trans he⟩
    · exact ⟨t, (flush_tile a k hw t).2 (.inr ⟨by omega, he⟩), rfl⟩

/-- The tiles written back make up the result array. -/
theorem covers (hw : Follows a.1 k) : ((cfg0 a).win (4 : Fin 5)).Covers := by
  have hN : (cfg0 a).N = 263 := N_0
  refine ⟨fun b => ?_, fun β => ?_⟩
  · match b with
    | ⟨0, _⟩ => exact (by decide : 0 < 512)
    | ⟨1, _⟩ => exact (by decide : 0 < 1024)
  · have hb : (β (0 : Fin 2)).val < 256 := (β (0 : Fin 2)).isLt.trans_eq (by unfold Pipeline.Window.nblk; show (131072 + 512 - 1) / 512 = 256; rfl)
    have hb1 : (β (1 : Fin 2)).val < 1 := (β (1 : Fin 2)).isLt.trans_eq (by unfold Pipeline.Window.nblk; show (1024 + 1024 - 1) / 1024 = 1; rfl)
    obtain ⟨t0, h0, hT, -, -⟩ := Cert.Sched.cover k hw.total (R := (β (0 : Fin 2)).val * 512) (by omega)
    have hnp := Cert.Sched.np_le k hw.total
    obtain ⟨t, h1, h2⟩ := flush_of_tile a k hw (262 - t0) ⟨t0, by omega⟩ (by show t0 + (262 - t0) = 262; omega)
    refine ⟨t, h1, fun b => ?_⟩
    rw [idx4 a k hw t]
    match b with
    | ⟨0, _⟩ => exact ⟨by show Cert.Sched.tile k t.val = (β (0 : Fin 2)).val; have : Cert.Sched.tile k t.val = Cert.Sched.tile k t0 := h2; omega, .inl rfl⟩
    | ⟨1, _⟩ => exact ⟨by show 0 = (β (1 : Fin 2)).val; omega, .inl rfl⟩

/-- The visit that meets a row comes no later than a point that writes the row's tile back. -/
theorem met_before (hw : Follows a.1 k) (t : Fin (cfg0 a).N) (hf : ((cfg0 a).win (4 : Fin 5)).flush t = true) (t0 : ℕ) (h0 : t0 < Cert.Sched.np k)
    (hT : Cert.Sched.tile k t0 = Cert.Sched.tile k t.val) : t0 ≤ t.val := by
  have hnp := Cert.Sched.np_le k hw.total
  rcases (flush_tile a k hw t).1 hf with h | ⟨h, hne⟩
  · omega
  · by_contra hlt
    have h1 := tile_le k hw.total (show t.val ≤ t.val + 1 by omega)
    have h2 := tile_le k hw.total (show t.val + 1 ≤ t0 by omega)
    omega

end Cert.Exp
-- ==== Proof.ExpertsValue.lean ====
/- The run of the experts' call with its result: each row the feed-forward of its row through the matrices of its expert. -/
module

public import proofs.«01_k».proof.Proof.ExpertsCover
public import Idealize.ShloMosaic.Lib.Pipeline.ValueKit

@[expose] public section

set_option maxRecDepth 16384
set_option Elab.async false

noncomputable section

namespace Cert.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Tactic

section
variable {F : FTy → Type} [FloatOps F] [∀ t, Nonempty (Elt F t)] (a : (pcfg0 (F := F)).Adm) (V : (c : Dev nD) → (b : Ref sig .tc) → Buf (Elt F) ((c.tc : Thread nD τ).loc b))

/-- The block of the rows, read off the array. -/
theorem iblk0_at (c : Dev nD) (t : Fin (cfg0 a).N) (T : ℕ) (hi : ((cfg0 a).win (0 : Fin 5)).index t = ![T, 0]) (r : Fin 512) (q : Fin 1024) (h : T * 512 + r.val < 131072) :
    iblk a V c (0 : Fin 5) t (ix2 r q) = V c main_arg0 (ix2 ⟨T * 512 + r.val, h⟩ q) := by
  refine congrArg (V c main_arg0) (funext fun d => Fin.ext ?_)
  refine (ValueKit.view_emb_slice_whole_unit_val main_arg0 _ _ _ (ix2 r q) d).trans ?_
  have o0 : ∀ x : ℕ, ((cfg0 a).win (0 : Fin 5)).kind.off x (((cfg0 a).win (0 : Fin 5)).size (0 : Fin 2)) = x * 512 := fun x => rfl
  have o1 : ∀ x : ℕ, ((cfg0 a).win (0 : Fin 5)).kind.off x (((cfg0 a).win (0 : Fin 5)).size (1 : Fin 2)) = x * 1024 := fun x => rfl
  have e0 : ((cfg0 a).win (0 : Fin 5)).index t (0 : Fin 2) = T := congrFun hi 0
  have e1 : ((cfg0 a).win (0 : Fin 5)).index t (1 : Fin 2) = 0 := congrFun hi 1
  match d with
  | ⟨0, _⟩ => exact congrArg (· + r.val) ((o0 _).trans (congrArg (· * 512) e0))
  | ⟨1, _⟩ => exact (congrArg (· + q.val) ((o1 _).trans (congrArg (· * 1024) e1))).trans (by show 0 * 1024 + q.val = q.val; omega)

/-- The block of the gate matrices, read off the array: the matrix of the point's expert. -/
theorem iblk1_at (c : Dev nD) (t : Fin (cfg0 a).N) (e : Fin 8) (hi : ((cfg0 a).win (1 : Fin 5)).index t = ![e.val, 0, 0]) (q : Fin 1024) (f : Fin 3584) :
    iblk a V c (1 : Fin 5) t (ix3 (0 : Fin 1) q f) = V c main_v83 (ix3 e q f) := by
  refine congrArg (V c main_v83) (funext fun d => Fin.ext ?_)
  refine (ValueKit.view_emb_slice_whole_unit_val main_v83 _ _ _ (ix3 (0 : Fin 1) q f) d).trans ?_
  have o0 : ∀ x : ℕ, ((cfg0 a).win (1 : Fin 5)).kind.off x (((cfg0 a).win (1 : Fin 5)).size (0 : Fin 3)) = x * 1 := fun x => rfl
  have o1 : ∀ x : ℕ, ((cfg0 a).win (1 : Fin 5)).kind.off x (((cfg0 a).win (1 : Fin 5)).size (1 : Fin 3)) = x * 1024 := fun x => rfl
  have o2 : ∀ x : ℕ, ((cfg0 a).win (1 : Fin 5)).kind.off x (((cfg0 a).win (1 : Fin 5)).size (2 : Fin 3)) = x * 3584 := fun x => rfl
  have e0 : ((cfg0 a).win (1 : Fin 5)).index t (0 : Fin 3) = e.val := congrFun hi 0
  have e1 : ((cfg0 a).win (1 : Fin 5)).index t (1 : Fin 3) = 0 := congrFun hi 1
  have e2 : ((cfg0 a).win (1 : Fin 5)).index t (2 : Fin 3) = 0 := congrFun hi 2
  match d with
  | ⟨0, _⟩ => exact (congrArg (· + 0) ((o0 _).trans (congrArg (· * 1) e0))).trans (by show e.val * 1 + 0 = e.val; omega)
  | ⟨1, _⟩ => exact (congrArg (· + q.val) ((o1 _).trans (congrArg (· * 1024) e1))).trans (by show 0 * 1024 + q.val = q.val; omega)
  | ⟨2, _⟩ => exact (congrArg (· + f.val) ((o2 _).trans (congrArg (· * 3584) e2))).trans (by show 0 * 3584 + f.val = f.val; omega)

/-- The block of the up matrices, read off the array: the matrix of the point's expert. -/
theorem iblk2_at (c : Dev nD) (t : Fin (cfg0 a).N) (e : Fin 8) (hi : ((cfg0 a).win (2 : Fin 5)).index t = ![e.val, 0, 0]) (q : Fin 1024) (f : Fin 3584) :
    iblk a V c (2 : Fin 5) t (ix3 (0 : Fin 1) q f) = V c main_v84 (ix3 e q f) := by
  refine congrArg (V c main_v84) (funext fun d => Fin.ext ?_)
  refine (ValueKit.view_emb_slice_whole_unit_val main_v84 _ _ _ (ix3 (0 : Fin 1) q f) d).trans ?_
  have o0 : ∀ x : ℕ, ((cfg0 a).win (2 : Fin 5)).kind.off x (((cfg0 a).win (2 : Fin 5)).size (0 : Fin 3)) = x * 1 := fun x => rfl
  have o1 : ∀ x : ℕ, ((cfg0 a).win (2 : Fin 5)).kind.off x (((cfg0 a).win (2 : Fin 5)).size (1 : Fin 3)) = x * 1024 := fun x => rfl
  have o2 : ∀ x : ℕ, ((cfg0 a).win (2 : Fin 5)).kind.off x (((cfg0 a).win (2 : Fin 5)).size (2 : Fin 3)) = x * 3584 := fun x => rfl
  have e0 : ((cfg0 a).win (2 : Fin 5)).index t (0 : Fin 3) = e.val := congrFun hi 0
  have e1 : ((cfg0 a).win (2 : Fin 5)).index t (1 : Fin 3) = 0 := congrFun hi 1
  have e2 : ((cfg0 a).win (2 : Fin 5)).index t (2 : Fin 3) = 0 := congrFun hi 2
  match d with
  | ⟨0, _⟩ => exact (congrArg (· + 0) ((o0 _).trans (congrArg (· * 1) e0))).trans (by show e.val * 1 + 0 = e.val; omega)
  | ⟨1, _⟩ => exact (congrArg (· + q.val) ((o1 _).trans (congrArg (· * 1024) e1))).trans (by show 0 * 1024 + q.val = q.val; omega)
  | ⟨2, _⟩ => exact (congrArg (· + f.val) ((o2 _).trans (congrArg (· * 3584) e2))).trans (by show 0 * 3584 + f.val = f.val; omega)

/-- The block of the down matrices, read off the array: the matrix of the point's expert. -/
theorem iblk3_at (c : Dev nD) (t : Fin (cfg0 a).N) (e : Fin 8) (hi : ((cfg0 a).win (3 : Fin 5)).index t = ![e.val, 0, 0]) (q : Fin 3584) (f : Fin 1024) :
    iblk a V c (3 : Fin 5) t (ix3 (0 : Fin 1) q f) = V c main_v85 (ix3 e q f) := by
  refine congrArg (V c main_v85) (funext fun d => Fin.ext ?_)
  refine (ValueKit.view_emb_slice_whole_unit_val main_v85 _ _ _ (ix3 (0 : Fin 1) q f) d).trans ?_
  have o0 : ∀ x : ℕ, ((cfg0 a).win (3 : Fin 5)).kind.off x (((cfg0 a).win (3 : Fin 5)).size (0 : Fin 3)) = x * 1 := fun x => rfl
  have o1 : ∀ x : ℕ, ((cfg0 a).win (3 : Fin 5)).kind.off x (((cfg0 a).win (3 : Fin 5)).size (1 : Fin 3)) = x * 3584 := fun x => rfl
  have o2 : ∀ x : ℕ, ((cfg0 a).win (3 : Fin 5)).kind.off x (((cfg0 a).win (3 : Fin 5)).size (2 : Fin 3)) = x * 1024 := fun x => rfl
  have e0 : ((cfg0 a).win (3 : Fin 5)).index t (0 : Fin 3) = e.val := congrFun hi 0
  have e1 : ((cfg0 a).win (3 : Fin 5)).index t (1 : Fin 3) = 0 := congrFun hi 1
  have e2 : ((cfg0 a).win (3 : Fin 5)).index t (2 : Fin 3) = 0 := congrFun hi 2
  match d with
  | ⟨0, _⟩ => exact (congrArg (· + 0) ((o0 _).trans (congrArg (· * 1) e0))).trans (by show e.val * 1 + 0 = e.val; omega)
  | ⟨1, _⟩ => exact (congrArg (· + q.val) ((o1 _).trans (congrArg (· * 3584) e1))).trans (by show 0 * 3584 + q.val = q.val; omega)
  | ⟨2, _⟩ => exact (congrArg (· + f.val) ((o2 _).trans (congrArg (· * 1024) e2))).trans (by show 0 * 1024 + f.val = f.val; omega)

/-- The place in the result array of a cell of the block a point works on. -/
theorem emb4_at (t : Fin (cfg0 a).N) (T : ℕ) (hi : ((cfg0 a).win (4 : Fin 5)).index t = ![T, 0]) (r : Fin 512) (q : Fin 1024) (h : T * 512 + r.val < 131072) :
    (((cfg0 a).win (4 : Fin 5)).blk t).view.emb (ix2 r q) = (ix2 (⟨T * 512 + r.val, h⟩ : Fin 131072) q : S131072x1024.Idx) := by
  refine funext fun d => Fin.ext ?_
  refine (ValueKit.view_emb_slice_whole_unit_val main_v86 _ _ _ (ix2 r q) d).trans ?_
  have o0 : ∀ x : ℕ, ((cfg0 a).win (4 : Fin 5)).kind.off x (((cfg0 a).win (4 : Fin 5)).size (0 : Fin 2)) = x * 512 := fun x => rfl
  have o1 : ∀ x : ℕ, ((cfg0 a).win (4 : Fin 5)).kind.off x (((cfg0 a).win (4 : Fin 5)).size (1 : Fin 2)) = x * 1024 := fun x => rfl
  have e0 : ((cfg0 a).win (4 : Fin 5)).index t (0 : Fin 2) = T := congrFun hi 0
  have e1 : ((cfg0 a).win (4 : Fin 5)).index t (1 : Fin 2) = 0 := congrFun hi 1
  match d with
  | ⟨0, _⟩ => exact congrArg (· + r.val) ((o0 _).trans (congrArg (· * 512) e0))
  | ⟨1, _⟩ => exact (congrArg (· + q.val) ((o1 _).trans (congrArg (· * 1024) e1))).trans (by show 0 * 1024 + q.val = q.val; omega)

end

section
variable (a : (pcfg0 (F := Ideal)).Adm) (V : (c : Dev nD) → (b : Ref sig .tc) → Buf (Elt Ideal) ((c.tc : Thread nD τ).loc b))
variable (k : ℕ → ℕ) (hg : Good a.1) (hw : Follows a.1 k)

/-- The expert that owns a row, as an index of the matrices. -/
def own (k : ℕ → ℕ) (R : ℕ) : Fin 8 := ⟨Cert.Sched.owner k R % 8, Nat.mod_lt _ (by decide)⟩

/-- The feed-forward of each row through the matrices of the expert that owns it, as one function of the rows and the matrices. -/
def ffn (k : ℕ → ℕ) (x : S131072x1024.Idx → EReal) (w1 w3 : S8x1024x3584.Idx → EReal) (w2 : S8x3584x1024.Idx → EReal) (R : Fin 131072) (j : Fin 1024) : EReal :=
  mlp (fun q => x (ix2 R q)) (fun q f => w1 (ix3 (own k R.val) q f)) (fun q f => w3 (ix3 (own k R.val) q f)) (fun f j => w2 (ix3 (own k R.val) f j)) j

/-- The wanted result array, from the arrays the call finds. -/
def W (c : Dev nD) : S131072x1024.Idx → EReal := fun i => ffn k (V c main_arg0) (V c main_v83) (V c main_v84) (V c main_v85) (i 0) (i 1)

include hw in
/-- A visit's block at a row its expert owns: the wanted value of the row. -/
theorem yblk_at (c : Dev nD) (t : Fin (cfg0 a).N) (R : ℕ) (hR : R < 131072) (j : Fin 1024) (hT : Cert.Sched.tile k t.val = R / 512)
    (hlo : Cert.Sched.off k (Cert.Sched.ex k t.val) ≤ R) (hhi : R < Cert.Sched.en k (Cert.Sched.ex k t.val)) :
    yblk a V c t (ix2 (⟨R % 512, Nat.mod_lt _ (by decide)⟩ : Fin 512) j) = ffn k (V c main_arg0) (V c main_v83) (V c main_v84) (V c main_v85) ⟨R, hR⟩ j := by
  have he : Cert.Sched.ex k t.val < 8 := Cert.Sched.ex_lt k t.val
  have ho : own k R = ⟨Cert.Sched.ex k t.val, he⟩ :=
    Fin.ext (by
      show Cert.Sched.owner k R % 8 = Cert.Sched.ex k t.val
      rw [Cert.Sched.owner_eq k he hlo hhi]
      exact Nat.mod_eq_of_lt he)
  have hr : Cert.Sched.tile k t.val * 512 + R % 512 = R := by omega
  have hR' : (⟨Cert.Sched.tile k t.val * 512 + (⟨R % 512, Nat.mod_lt _ (by decide)⟩ : Fin 512).val, by show Cert.Sched.tile k t.val * 512 + R % 512 < 131072; omega⟩ : Fin 131072) = ⟨R, hR⟩ := Fin.ext hr
  refine (pay1_at _ _ _ _ _ _).trans ?_
  unfold ffn
  show _ = mlp _ (fun q f => V c main_v83 (ix3 (own k R) q f)) (fun q f => V c main_v84 (ix3 (own k R) q f)) (fun f j => V c main_v85 (ix3 (own k R) f j)) j
  rw [ho]
  congr 1
  · funext q
    refine (iblk0_at a V c t _ (idx0 a k hw t) _ q (by show Cert.Sched.tile k t.val * 512 + R % 512 < 131072; omega)).trans ?_
    exact congrArg (fun z : Fin 131072 => V c main_arg0 (ix2 z q)) hR'
  · funext q f
    exact iblk1_at a V c t ⟨Cert.Sched.ex k t.val, he⟩ (idx1 a k hw t) q f
  · funext q f
    exact iblk2_at a V c t ⟨Cert.Sched.ex k t.val, he⟩ (idx2 a k hw t) q f
  · funext f q
    exact iblk3_at a V c t ⟨Cert.Sched.ex k t.val, he⟩ (idx3 a k hw t) f q

include hg hw in
/-- The result array after the call: the feed-forward of every row. -/
theorem final (c : Dev nD) : (dats a V 0 c).arrAt (4 : Fin 5) (cfg0 a).N = W V k c := by
  refine (dats a V 0 c).arrAt_eq_of_covers (4 : Fin 5) _ (covers a k hw) fun t hf y => ?_
  blk_simp
  rw [after_4]
  idx_vars y
  have hN : (cfg0 a).N = 263 := N_0
  have ht := t.isLt
  have hlt := Cert.Sched.tile_lt k hw.total t.val
  have hy := y0.isLt
  have hb : Cert.Sched.tile k t.val * 512 + y0.val < 131072 := by omega
  refine Eq.trans ?_ (congrArg (W V k c) (emb4_at a t _ (idx4 a k hw t) y0 y1 hb).symm)
  obtain ⟨t0, h0, hT, hlo, hhi⟩ := Cert.Sched.cover k hw.total hb
  have hd : (Cert.Sched.tile k t.val * 512 + y0.val) / 512 = Cert.Sched.tile k t.val := by omega
  have hm : (⟨(Cert.Sched.tile k t.val * 512 + y0.val) % 512, Nat.mod_lt _ (by decide)⟩ : Fin 512) = y0 := Fin.ext (by show (Cert.Sched.tile k t.val * 512 + y0.val) % 512 = y0.val; omega)
  have key := traj_row a V k hg hw c _ y1 _ (fun s hs h1 h2 => yblk_at a V k hw c s _ hb y1 hs h1 h2) t0 h0 hT hlo hhi t.val t.isLt
    (met_before a k hw t hf t0 h0 (hT.trans hd)) hd.symm
  rw [hm] at key
  exact key

end

variable (m : (ℓ : Loc nD τ sig) → Buf (Elt Ideal) ℓ) (k : ℕ → ℕ)

/-- The result array as one function of the argument arrays: the feed-forward of each row through the matrices of the expert that owns it. -/
def G (c : Dev nD) : Buf (Elt Ideal) ((c.tc : Thread nD τ).loc main_v86) := fun i =>
  ffn k (m ((c.tc : Thread nD τ).loc main_arg0)) (m ((c.tc : Thread nD τ).loc main_arg2)) (m ((c.tc : Thread nD τ).loc main_arg3)) (m ((c.tc : Thread nD τ).loc main_arg4)) (i 0) (i 1)

/-- The arrays the call finds are the arguments, so the wanted array is a function of the arguments. -/
theorem W_eq (c : Dev nD) : W (Vent m) k c = G m k c := by
  unfold W
  rw [Vent_main_arg0, Vent_main_v83, Vent_main_v84, Vent_main_v85]
  rfl

/-- Run from any memory with good tables that follow the counts, the call and its host code leave the feed-forward of every row, and the arguments unchanged. -/
theorem run (hg : Good (tbl m)) (hw : Follows (tbl m) k) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v86) = G m k c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨
    ((h.1 c).1 4).trans ((final (adm m hg) (Vent m) k hg hw c).trans (W_eq m k c)),
    ((h.1 c).1 0).trans (((dats (adm m hg) (Vent m) 0 c).arrAt_in 0 rfl _).trans (Vent_main_arg0 m c)),
    ((h.1 c).2 main_arg1 (rest_1 m hg)).trans (Vent_main_arg1 m c),
    ((h.1 c).2 main_arg2 (rest_2 m hg)).trans (Vent_main_arg2 m c),
    ((h.1 c).2 main_arg3 (rest_3 m hg)).trans (Vent_main_arg3 m c),
    ((h.1 c).2 main_arg4 (rest_4 m hg)).trans (Vent_main_arg4 m c)⟩) (run_main m hg ρ)

end Cert.Exp
-- ==== Proof.ExpertsSame.lean ====
/- The experts' call printed for machine words and for extended reals is one program: the functions and the host code agree as written. -/
module

public import proofs.«01_k».proof.Defs
public import proofs.«01_k».proof.Proof.Gen.Experts
public import proofs.«01_k».proof.Proof.Gen.ExpertsIdeal

@[expose] public section

noncomputable section

namespace Cert.Exp.Same

open Idealize.ShloMosaic Idealize.SL.Sem

variable {F : FTy → Type} [FloatOps F]

/-- The kernel function's body is the same. -/
theorem defs₀_eq : Cert.Experts.defs₀ (F := F) = Cert.ExpertsIdeal.defs₀ (F := F) :=
  congrArg Defs.onTc (funext fun l => match l with
    | 0 => funext fun ⟨t, s⟩ => rfl
    | ⟨_ + 1, h⟩ => absurd h (Nat.not_lt.2 (Nat.le_add_left _ _)))

/-- The functions are the same. -/
theorem defs_eq : Cert.Experts.defs (F := F) = Cert.ExpertsIdeal.defs (F := F) :=
  congrArg (Pipeline.defs (Cert.Experts.pcfgs (F := F))) defs₀_eq

set_option maxHeartbeats 16000000 in
/-- The first half of the host code is the same. -/
theorem part0_eq : Cert.Experts.main_part0 (F := F) = Cert.ExpertsIdeal.main_part0 (F := F) := rfl

set_option maxHeartbeats 16000000 in
/-- The second half of the host code is the same. -/
theorem part1_eq : Cert.Experts.main_part1 (F := F) = Cert.ExpertsIdeal.main_part1 (F := F) := rfl

/-- The whole host code is the same. -/
theorem main_eq : Cert.Experts.main (F := F) = Cert.ExpertsIdeal.main (F := F) :=
  funext fun d => congrArg₂ (fun p q => p >>= fun _ => q) (congrFun part0_eq d) (congrFun part1_eq d)

/-- A run of one of two equal programs is a run of the other. -/
theorem run_of_eq {nD : ℕ} {τ : Topo} {sig : RefSig} {Λ : Labels} {D D' : Defs nD τ sig (Elt F) Λ}
    {M M' : Dev nD → Prog (TpuEff nD τ sig (Elt F) Λ .tc) PUnit} (hD : D' = D) (hM : M' = M) (s) (Q) (h : θ_run D (onTc (τ := τ) M) s Q) :
    θ_run D' (onTc (τ := τ) M') s Q := by
  subst hD; subst hM; exact h

end Cert.Exp.Same
-- ==== Proof.BandRow.lean ====
/-
  The shared band's keys and values and the queries of one row: the functions both the kernel and the reference compute.
-/
module

public import proofs.«01_k».proof.Proof.Dense

@[expose] public section

set_option maxRecDepth 16384

noncomputable section

open Idealize.ShloMosaic
open scoped BigOperators

namespace Cert.Proof.Band
open Cert.Proof.Dense

/-- One row's norm, multiplied by a matrix. -/
def lin (x g : Fin 1024 → EReal) (w : Fin 1024 → Fin 1024 → EReal) (j : Fin 1024) : EReal := ∑ k, normed x g k * w k j

/-- A row of sixteen heads of 64 lanes, each head scaled by the reciprocal root of its mean square (plus the small constant)
    and by the gains of its lanes. -/
def head (z : Fin 1024 → EReal) (g : Fin 64 → EReal) (j : Fin 1024) : EReal :=
  z j * Ideal.rsqrt (Ideal.div (∑ d : Fin 64, z ⟨j.val / 64 * 64 + d.val, by omega⟩ * z ⟨j.val / 64 * 64 + d.val, by omega⟩) (Ideal.ofBits .f32 0x42800000#32)
    + Ideal.ofBits .f32 0x358637BD#32) * g ⟨j.val % 64, by omega⟩

/-- A sum over 256 lanes weighted by one on head `b`'s lanes and by zero elsewhere is the sum over that head's lanes. -/
theorem sum_head (f : Fin 256 → EReal) (b : ℕ) (hb : b < 4) :
    ∑ k : Fin 256, f k * (if k.val / 64 = b then 1 else 0) = ∑ d : Fin 64, f ⟨64 * b + d.val, by omega⟩ := by
  simp only [mul_ite, mul_one, mul_zero]
  rw [← Finset.sum_filter]
  refine (Finset.sum_bij (fun (d : Fin 64) _ => (⟨64 * b + d.val, by omega⟩ : Fin 256)) (fun d _ => ?_) (fun d _ e _ h => ?_) (fun k hk => ?_) (fun d _ => rfl)).symm
  · simp only [Finset.mem_filter, Finset.mem_univ, true_and]; omega
  · simp only [Fin.mk.injEq] at h; exact Fin.ext (by omega)
  · simp only [Finset.mem_filter, Finset.mem_univ, true_and] at hk
    exact ⟨⟨k.val % 64, by omega⟩, Finset.mem_univ _, Fin.ext (by show 64 * b + k.val % 64 = k.val; omega)⟩

/-- The pattern of one sixty-fourth multiplies as the pattern of 64 divides. -/
theorem mul_inv64 (s : EReal) : s * Ideal.ofBits .f32 0x3C800000#32 = Ideal.div s (Ideal.ofBits .f32 0x42800000#32) := by
  simp [Ideal.ofBits, Ideal.ieee, Ideal.div]
  rw [← EReal.coe_mul, ← EReal.coe_mul, ← EReal.coe_inv]
  norm_num

/-- Lane `y` of the tile of 256 lanes that starts at lane `256 u`, as the kernel scales it. -/
theorem head_tile (z : Fin 1024 → EReal) (g : Fin 64 → EReal) (j : Fin 1024) (t b : Fin 256 → EReal) (u : ℕ) (hu : u < 4) (y : Fin 256)
    (hj : j.val = 256 * u + y.val) (ht : ∀ k : Fin 256, t k = z ⟨256 * u + k.val, by omega⟩)
    (hb : ∀ k : Fin 256, b k = if k.val / 64 = y.val / 64 then 1 else 0) (s : EReal) (hs : s = g ⟨y.val % 64, by omega⟩) :
    t y * Ideal.rsqrt ((∑ k, t k * t k * b k) * Ideal.ofBits .f32 0x3C800000#32 + Ideal.ofBits .f32 0x358637BD#32) * s = head z g j := by
  unfold head
  simp only [hb]
  rw [sum_head (fun k => t k * t k) (y.val / 64) (by omega), mul_inv64, hs, ht y]
  have e : (⟨256 * u + y.val, by omega⟩ : Fin 1024) = j := Fin.ext hj.symm
  have eg : (⟨y.val % 64, by omega⟩ : Fin 64) = ⟨j.val % 64, by omega⟩ := Fin.ext (by simp only [hj]; omega)
  rw [e, eg]
  refine congrArg (fun q => z j * Ideal.rsqrt (Ideal.div q _ + _) * _) (Finset.sum_congr rfl fun d _ => ?_)
  have ed : (⟨256 * u + (64 * (y.val / 64) + d.val), by omega⟩ : Fin 1024) = ⟨j.val / 64 * 64 + d.val, by omega⟩ :=
    Fin.ext (by simp only [hj]; omega)
  rw [ht, ed]

/-- A constant that multiplies the normed heads multiplies the gains. -/
theorem head_mul (z : Fin 1024 → EReal) (g : Fin 64 → EReal) (s : EReal) (j : Fin 1024) : head z g j * s = head z (fun d => g d * s) j :=
  mul_assoc _ _ _

end Cert.Proof.Band
-- ==== Proof.BandBlock.lean ====
/-
  The band kernel's three output blocks, read as the row functions.
-/
module

public import proofs.«01_k».proof.Proof.Gen.BandIdeal.Frame
public import proofs.«01_k».proof.Proof.BandRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.BandIdeal.Hand
open Cert.BandIdeal Cert.BandIdeal.Gen Cert.Proof.Dense Cert.Proof.Band

variable (x0 : Vec Ideal S512x1024 .f32) (x1 x2 : Vec Ideal S1x1024 .f32) (x3 x4 x5 : Vec Ideal S1024x1024 .bf16)
  (x6 x7 : Vec Ideal S1x256 .f32) (x8 : Vec Ideal S256x256 .bf16)

/-- The values' block at row `r`, column `j`: the row's norm times the matrix. -/
theorem v_apply (y : S512x1024.Idx) :
    out0_10 x0 x1 x2 x3 x4 x5 x6 x7 x8 y = lin (fun k => x0 (ix2 (y 0) k)) (fun k => x1 (ix2 0 k)) (fun k j => x4 (ix2 k j)) (y 1) := by
  unfold out0_10
  frame_out
  idx_vars y
  pointwise [k0_pay5, k0_pay3]
  rfl

/-- One lane of a tile of 256 lanes: what the kernel computes there is the head's norm of the row's product. -/
theorem tile_apply (x g : Fin 1024 → EReal) (w : Fin 1024 → Fin 1024 → EReal) (gn : Fin 64 → EReal) (j : Fin 1024) (h : Vec Ideal S1x256 .f32)
    (h8 : ∀ a b : Fin 256, x8 (ix2 a b) = if a.val / 64 = b.val / 64 then 1 else 0)
    (h6 : ∀ b : Fin 256, h (ix2 0 b) = gn ⟨b.val % 64, by omega⟩) (y : Fin 256) (c : Fin 256 → Fin 1024) (u : ℕ) (hu : u < 4)
    (hc : ∀ k, (c k).val = 256 * u + k.val) (hj : j = c y) :
    lin x g w (c y) * Ideal.rsqrt ((∑ k, lin x g w (c k) * lin x g w (c k) * x8 (ix2 k y)) * Ideal.ofBits .f32 0x3C800000#32 + Ideal.ofBits .f32 0x358637BD#32)
      * h (ix2 0 y) = head (lin x g w) gn j :=
  head_tile (lin x g w) gn j (fun k => lin x g w (c k)) (fun k => x8 (ix2 k y)) u hu y ((congrArg Fin.val hj).trans (hc y))
    (fun k => congrArg (lin x g w) (Fin.ext (hc k))) (fun k => h8 k y) _ (h6 y)

set_option maxHeartbeats 1000000 in
/-- The keys' block at row `r`, column `j`: the row's norm times the matrix, each head normed. -/
theorem k_apply (g : Fin 64 → EReal) (h8 : ∀ a b : Fin 256, x8 (ix2 a b) = if a.val / 64 = b.val / 64 then 1 else 0)
    (h6 : ∀ b : Fin 256, x6 (ix2 0 b) = g ⟨b.val % 64, by omega⟩) (y : S512x1024.Idx) :
    out0_9 x0 x1 x2 x3 x4 x5 x6 x7 x8 y = head (lin (fun k => x0 (ix2 (y 0) k)) (fun k => x1 (ix2 0 k)) (fun k j => x3 (ix2 k j))) g (y 1) := by
  unfold out0_9 k0_pay21
  frame_out
  canon_tiles z h <;>
  · idx_vars z
    open_payloads
    pointwise [k0_pay3]
    rw [show (y 0 : Fin 512) = z0 from Fin.ext h0]
    first
    | have T := tile_apply x8 (fun k => x0 (ix2 z0 k)) (fun k => x1 (ix2 0 k)) (fun k j => x3 (ix2 k j)) g (y 1) x6 h8 h6 z1
        (fun k => ⟨768 + k.val, by omega⟩) 3 (by decide) (fun _ => rfl) (Fin.ext h1)
    | have T := tile_apply x8 (fun k => x0 (ix2 z0 k)) (fun k => x1 (ix2 0 k)) (fun k j => x3 (ix2 k j)) g (y 1) x6 h8 h6 z1
        (fun k => ⟨512 + k.val, by omega⟩) 2 (by decide) (fun _ => rfl) (Fin.ext h1)
    | have T := tile_apply x8 (fun k => x0 (ix2 z0 k)) (fun k => x1 (ix2 0 k)) (fun k j => x3 (ix2 k j)) g (y 1) x6 h8 h6 z1
        (fun k => ⟨256 + k.val, by omega⟩) 1 (by decide) (fun _ => rfl) (Fin.ext h1)
    | have T := tile_apply x8 (fun k => x0 (ix2 z0 k)) (fun k => x1 (ix2 0 k)) (fun k j => x3 (ix2 k j)) g (y 1) x6 h8 h6 z1
        (fun k => ⟨k.val, by omega⟩) 0 (by decide) (fun k => (Nat.zero_add k.val).symm) (Fin.ext h1)
    refine Eq.trans ?_ T
    simp only [lin, normed]

set_option maxHeartbeats 1000000 in
/-- The queries' block at row `r`, column `j`: the row's other norm times its matrix, each head normed. -/
theorem q_apply (g : Fin 64 → EReal) (h8 : ∀ a b : Fin 256, x8 (ix2 a b) = if a.val / 64 = b.val / 64 then 1 else 0)
    (h7 : ∀ b : Fin 256, x7 (ix2 0 b) = g ⟨b.val % 64, by omega⟩) (y : S512x1024.Idx) :
    out0_11 x0 x1 x2 x3 x4 x5 x6 x7 x8 y = head (lin (fun k => x0 (ix2 (y 0) k)) (fun k => x2 (ix2 0 k)) (fun k j => x5 (ix2 k j))) g (y 1) := by
  unfold out0_11 k0_pay22
  frame_out
  canon_tiles z h <;>
  · idx_vars z
    open_payloads
    pointwise [k0_pay4, k0_pay8, k0_pay9, k0_pay13, k0_pay14, k0_pay15, k0_pay19]
    rw [show (y 0 : Fin 512) = z0 from Fin.ext h0]
    first
    | have T := tile_apply x8 (fun k => x0 (ix2 z0 k)) (fun k => x2 (ix2 0 k)) (fun k j => x5 (ix2 k j)) g (y 1) x7 h8 h7 z1
        (fun k => ⟨768 + k.val, by omega⟩) 3 (by decide) (fun _ => rfl) (Fin.ext h1)
    | have T := tile_apply x8 (fun k => x0 (ix2 z0 k)) (fun k => x2 (ix2 0 k)) (fun k j => x5 (ix2 k j)) g (y 1) x7 h8 h7 z1
        (fun k => ⟨512 + k.val, by omega⟩) 2 (by decide) (fun _ => rfl) (Fin.ext h1)
    | have T := tile_apply x8 (fun k => x0 (ix2 z0 k)) (fun k => x2 (ix2 0 k)) (fun k j => x5 (ix2 k j)) g (y 1) x7 h8 h7 z1
        (fun k => ⟨256 + k.val, by omega⟩) 1 (by decide) (fun _ => rfl) (Fin.ext h1)
    | have T := tile_apply x8 (fun k => x0 (ix2 z0 k)) (fun k => x2 (ix2 0 k)) (fun k j => x5 (ix2 k j)) g (y 1) x7 h8 h7 z1
        (fun k => ⟨k.val, by omega⟩) 0 (by decide) (fun k => (Nat.zero_add k.val).symm) (Fin.ext h1)
    refine Eq.trans ?_ T
    simp only [lin, normed]

end Cert.BandIdeal.Hand
-- ==== Proof.BandLit.lean ====
/-
  The block-diagonal matrix of ones with which the band's kernel sums each head's lanes, read from its printed table.
-/
module

public import proofs.«01_k».proof.BandIdeal
public import Mathlib.Tactic.IntervalCases

@[expose] public section

set_option maxRecDepth 16384

noncomputable section

open Idealize.ShloMosaic
namespace Cert.BandIdeal.Hand
open Cert.BandIdeal

set_option maxHeartbeats 1000000

/-- Rows 0 to 63 of the table: its runs of 128 entries, the even and the odd ones. -/
theorem rows0 (i n : ℕ) (h : i / 128 % 128 = n) (hn : n < 128) : lit0t1_0 i = if n % 2 = 0 then lit0t0_0 i else lit0t0_1 i := by
  unfold lit0t1_0
  rw [h]
  clear h
  interval_cases n <;> rfl

/-- Rows 64 to 127 of the table: its runs of 128 entries, the even and the odd ones. -/
theorem rows1 (i n : ℕ) (h : i / 128 % 128 = n) (hn : n < 128) : lit0t1_1 i = if n % 2 = 0 then lit0t0_128 i else lit0t0_1 i := by
  unfold lit0t1_1
  rw [h]
  clear h
  interval_cases n <;> rfl

/-- Rows 128 to 191 of the table: its runs of 128 entries, the even and the odd ones. -/
theorem rows2 (i n : ℕ) (h : i / 128 % 128 = n) (hn : n < 128) : lit0t1_2 i = if n % 2 = 0 then lit0t0_1 i else lit0t0_0 i := by
  unfold lit0t1_2
  rw [h]
  clear h
  interval_cases n <;> rfl

/-- Rows 192 to 255 of the table: its runs of 128 entries, the even and the odd ones. -/
theorem rows3 (i n : ℕ) (h : i / 128 % 128 = n) (hn : n < 128) : lit0t1_3 i = if n % 2 = 0 then lit0t0_1 i else lit0t0_128 i := by
  unfold lit0t1_3
  rw [h]
  clear h
  interval_cases n <;> rfl

/-- A run of the first kind: ones on its first 64 places. -/
theorem run_low (i : ℕ) : lit0t0_0 i = if i % 128 / 64 = 0 then 0x3F80#16 else 0#16 := by
  have h : ∀ c : Fin 128, lit0t0_0 c.val = if c.val / 64 = 0 then 0x3F80#16 else 0#16 := by decide +kernel
  rw [← h ⟨i % 128, by omega⟩]
  unfold lit0t0_0
  rw [show (⟨i % 128, by omega⟩ : Fin 128).val % 128 = i % 128 from Nat.mod_mod i 128]

/-- A run of the second kind: ones on its last 64 places. -/
theorem run_high (i : ℕ) : lit0t0_128 i = if i % 128 / 64 = 1 then 0x3F80#16 else 0#16 := by
  have h : ∀ c : Fin 128, lit0t0_128 c.val = if c.val / 64 = 1 then 0x3F80#16 else 0#16 := by decide +kernel
  rw [← h ⟨i % 128, by omega⟩]
  unfold lit0t0_128
  rw [show (⟨i % 128, by omega⟩ : Fin 128).val % 128 = i % 128 from Nat.mod_mod i 128]

/-- A run of the third kind: zero throughout. -/
theorem run_zero (i : ℕ) : lit0t0_1 i = 0#16 := by
  have h : ∀ c : Fin 128, lit0t0_1 c.val = 0#16 := by decide +kernel
  rw [← h ⟨i % 128, by omega⟩]
  unfold lit0t0_1
  rw [show (⟨i % 128, by omega⟩ : Fin 128).val % 128 = i % 128 from Nat.mod_mod i 128]

/-- The table's entry at row `r`, column `c` is one where row and column lie in one head, zero elsewhere. -/
theorem lit_eq (r c : Fin 256) (i : ℕ) (hi : i = 256 * r.val + c.val) : lit0t i = if r.val / 64 = c.val / 64 then 0x3F80#16 else 0#16 := by
  obtain h | h | h | h : r.val / 64 = 0 ∨ r.val / 64 = 1 ∨ r.val / 64 = 2 ∨ r.val / 64 = 3 := by omega
  · rw [show lit0t i = lit0t1_0 i by unfold lit0t; rw [show i / 16384 = 0 by omega]; rfl, rows0 i _ rfl (by omega), run_low, run_zero]
    split_ifs <;> first | rfl | omega
  · rw [show lit0t i = lit0t1_1 i by unfold lit0t; rw [show i / 16384 = 1 by omega]; rfl, rows1 i _ rfl (by omega), run_high, run_zero]
    split_ifs <;> first | rfl | omega
  · rw [show lit0t i = lit0t1_2 i by unfold lit0t; rw [show i / 16384 = 2 by omega]; rfl, rows2 i _ rfl (by omega), run_low, run_zero]
    split_ifs <;> first | rfl | omega
  · rw [show lit0t i = lit0t1_3 i by unfold lit0t; rw [show i / 16384 = 3 by omega]; rfl, rows3 i _ rfl (by omega), run_high, run_zero]
    split_ifs <;> first | rfl | omega

end Cert.BandIdeal.Hand
-- ==== Proof.BandValue.lean ====
/-
  The band kernel's three result arrays after its run: each grid point writes its 512 rows of keys, values and queries.
-/
module

public import proofs.«01_k».proof.Proof.Gen.BandIdeal.Value
public import proofs.«01_k».proof.Proof.BandBlock
public import proofs.«01_k».proof.Proof.BandLit

@[expose] public section

set_option maxRecDepth 16384

noncomputable section

open Idealize.ShloMosaic Idealize.ShloMosaic.TcCoe Idealize.SL.Sem
open Idealize.ShloMosaic.Pipeline (Dat)
open scoped BigOperators

namespace Cert.BandIdeal.Hand
open Cert.BandIdeal Cert.BandIdeal.Gen Cert.Proof.Dense Cert.Proof.Band

variable (m : (ℓ : Loc nD τ sig) → Buf (Elt Ideal) ℓ) (ρ : Dev nD → PrngReg)

/-- The block index of each window at a grid point. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] := by decide +kernel

/-- The block of the keys' gains: the 64 gains repeated over the tile's four heads. -/
theorem gk (c : Dev nD) (t : Fin cfg0.N) (b : Fin 256) :
    iblk m c 6 t (ix2 0 b) = m ((c : Thread nD τ).loc main_arg6) (ix1 ⟨b.val % 64, by omega⟩) := by
  blk_ext! [iblk, V, idx t]

/-- The queries' gains, scaled by the softmax's constant. -/
def gains (c : Dev nD) (d : Fin 64) : EReal :=
  HMul.hMul (α := EReal) (β := EReal) (m ((c : Thread nD τ).loc main_arg7) (ix1 d)) (Ideal.ofBits .f32 0x3E38AA3B#32)

/-- The block of the queries' gains: the 64 gains, scaled by the softmax's constant, repeated over the tile's four heads. -/
theorem gq (c : Dev nD) (t : Fin cfg0.N) (b : Fin 256) :
    iblk m c 7 t (ix2 0 b) = gains m c ⟨b.val % 64, by omega⟩ := by
  unfold gains
  blk_ext! [iblk, V, idx t]

/-- The block of the summing matrix, as its printed table. -/
theorem tab (c : Dev nD) (t : Fin cfg0.N) (a b : Fin 256) :
    iblk m c 8 t (ix2 a b) = FloatOps.ofBits (F := Ideal) .bf16 (lit0 (S256x256.rowMajor (ix2 a b))) := by
  blk_ext! [iblk, V, idx t]

/-- The block of the summing matrix: one where row and column lie in one head, zero elsewhere. -/
theorem ones (c : Dev nD) (t : Fin cfg0.N) (a b : Fin 256) :
    iblk m c 8 t (ix2 a b) = if a.val / 64 = b.val / 64 then (1 : EReal) else 0 := by
  rw [tab]
  refine (congrArg (Ideal.ofBits .bf16) (lit_eq a b _ ((Shape.rowMajor_val_two _).trans (by simp [Nat.mul_comm])))).trans ?_
  split_ifs
  · simp [Ideal.ofBits, Ideal.ieee]
    rw [← EReal.coe_mul]
    norm_num
  · simp [Ideal.ofBits, Ideal.ieee]

/-- The keys' array as one function of the argument arrays. -/
def K (c : Dev nD) : Buf (Elt Ideal) ((c : Thread nD τ).loc main_v15_0) := fun i =>
  head (lin (fun k => m ((c : Thread nD τ).loc main_arg0) (ix2 (i 0) k)) (fun k => m ((c : Thread nD τ).loc main_arg1) (ix1 k))
    (fun k j => m ((c : Thread nD τ).loc main_arg3) (ix2 k j))) (fun d => m ((c : Thread nD τ).loc main_arg6) (ix1 d)) (i 1)

/-- The values' array as one function of the argument arrays. -/
def W (c : Dev nD) : Buf (Elt Ideal) ((c : Thread nD τ).loc main_v15_1) := fun i =>
  lin (fun k => m ((c : Thread nD τ).loc main_arg0) (ix2 (i 0) k)) (fun k => m ((c : Thread nD τ).loc main_arg1) (ix1 k))
    (fun k j => m ((c : Thread nD τ).loc main_arg4) (ix2 k j)) (i 1)

/-- The queries' array as one function of the argument arrays. -/
def Q (c : Dev nD) : Buf (Elt Ideal) ((c : Thread nD τ).loc main_v15_2) := fun i =>
  head (lin (fun k => m ((c : Thread nD τ).loc main_arg0) (ix2 (i 0) k)) (fun k => m ((c : Thread nD τ).loc main_arg2) (ix1 k))
    (fun k j => m ((c : Thread nD τ).loc main_arg5) (ix2 k j))) (gains m c) (i 1)

set_option maxHeartbeats 1000000 in
/-- The keys' array after the run: each grid point writes its 512 rows, and the blocks tile the array. -/
theorem final_k (c : Dev nD) : (dats m 0 c).arrAt 9 cfg0.N = K m c := by
  refine (dats m 0 c).arrAt_eq_of_covers 9 _ (by decide +kernel) fun t hf y => ?_
  blk_simp
  rw [after0_9]
  refine (k_apply _ _ _ _ _ _ _ _ _ (fun d => m ((c : Thread nD τ).loc main_arg6) (ix1 d)) (ones m c t) (gk m c t) y).trans ?_
  idx_vars y
  unfold K
  congr 1
  · congr 1
    · funext k; blk_ext [iblk, V_main_arg0, idx t]
    · funext k; blk_ext! [iblk, V, idx t]
    · funext k j; blk_ext! [iblk, V, idx t]
  · exact Fin.ext (by blk_simp [idx t])

/-- The values' array after the run. -/
theorem final_v (c : Dev nD) : (dats m 0 c).arrAt 10 cfg0.N = W m c := by
  refine (dats m 0 c).arrAt_eq_of_covers 10 _ (by decide +kernel) fun t hf y => ?_
  blk_simp
  rw [after0_10, v_apply]
  idx_vars y
  unfold W
  congr 1
  · funext k; blk_ext [iblk, V_main_arg0, idx t]
  · funext k; blk_ext! [iblk, V, idx t]
  · funext k j; blk_ext! [iblk, V, idx t]
  · exact Fin.ext (by blk_simp [idx t])

set_option maxHeartbeats 1000000 in
/-- The queries' array after the run. -/
theorem final_q (c : Dev nD) : (dats m 0 c).arrAt 11 cfg0.N = Q m c := by
  refine (dats m 0 c).arrAt_eq_of_covers 11 _ (by decide +kernel) fun t hf y => ?_
  blk_simp
  rw [after0_11]
  refine (q_apply _ _ _ _ _ _ _ _ _ (gains m c) (ones m c t) (gq m c t) y).trans ?_
  idx_vars y
  unfold Q
  congr 1
  · congr 1
    · funext k; blk_ext [iblk, V_main_arg0, idx t]
    · funext k; blk_ext! [iblk, V, idx t]
    · funext k j; blk_ext! [iblk, V, idx t]
  · exact Fin.ext (by blk_simp [idx t])

/-- The run: the three result arrays at the row functions of the arguments, the arguments unchanged. -/
theorem run : θ_run defs (onTc (τ := τ) (main (F := Ideal))) ⟨m, fun _ => 0, ρ⟩ fun r => ∀ c : Dev nD,
      r.2.mem ((c : Thread nD τ).loc main_v15_0) = K m c
      ∧ r.2.mem ((c : Thread nD τ).loc main_v15_1) = W m c
      ∧ r.2.mem ((c : Thread nD τ).loc main_v15_2) = Q m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_k m c), (h c).2.1.trans (final_v m c), (h c).2.2.1.trans (final_q m c), (h c).2.2.2⟩)
    (Value.run_blocks m ρ)

end Cert.BandIdeal.Hand
-- ==== Proof.BandRef.lean ====
/-
  The band's reference: its three result arrays are the row functions of its arguments.
-/
module

public import proofs.«01_k».proof.Proof.Gen.BandRefIdeal.Read
public import proofs.«01_k».proof.Proof.BandRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.BandRefIdeal.Hand
open Cert.BandRefIdeal Cert.BandRefIdeal.Read Cert.Proof.Dense Cert.Proof.Band

variable (x : (⟨S65536x1024, .f32⟩ : BufTy).Contents (Elt Ideal)) (g : (⟨S1024, .f32⟩ : BufTy).Contents (Elt Ideal))
  (w : (⟨S1024x1024, .f32⟩ : BufTy).Contents (Elt Ideal)) (gn : (⟨S64, .f32⟩ : BufTy).Contents (Elt Ideal))

/-- The reference's values, row by row. -/
theorem v_eq (i : S65536x1024.Idx) :
    val_main_v61 (F := Ideal) x g w i = lin (fun k => x (ix2 (i 0) k)) (fun k => g (ix1 k)) (fun k j => w (ix2 k j)) (i 1) := by
  rw [← val_main_v61_eq]
  idx_vars i
  pointwise []
  rfl

/-- The reference's keys, row by row: every head normed. -/
theorem k_eq (i : S65536x1024.Idx) :
    val_main_v60 (F := Ideal) x g w gn i
      = head (lin (fun k => x (ix2 (i 0) k)) (fun k => g (ix1 k)) (fun k j => w (ix2 k j))) (fun d => gn (ix1 d)) (i 1) := by
  rw [← val_main_v60_eq]
  idx_vars i
  pointwise []
  simp only [head, lin, normed]

/-- The reference's queries, row by row: every head normed and scaled by the softmax's constant. -/
theorem q_eq (i : S65536x1024.Idx) :
    val_main_v63 (F := Ideal) x g w gn i
      = head (lin (fun k => x (ix2 (i 0) k)) (fun k => g (ix1 k)) (fun k j => w (ix2 k j)))
          (fun d => HMul.hMul (α := EReal) (β := EReal) (gn (ix1 d)) (Ideal.ofBits .f32 0x3E38AA3B#32)) (i 1) := by
  rw [← val_main_v63_eq]
  refine Eq.trans ?_ (head_mul _ (fun d => gn (ix1 d)) _ _)
  idx_vars i
  pointwise []
  simp only [head, lin, normed]

end Cert.BandRefIdeal.Hand
-- ==== Proof.lean ====
module

public import proofs.«01_k».proof.Proof.Gen.DenseRefIdeal.Run
public import proofs.«01_k».proof.Proof.Gen.DenseRefIdeal.Read
public import proofs.«01_k».proof.Proof.Gen.ReferenceIdeal.Run
public import proofs.«01_k».proof.Proof.Gen.ReferenceIdeal.Read
public import proofs.«01_k».proof.Proof.Gen.DenseIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseRefIdeal
public import proofs.«01_k».proof.Proof.Gen.Pre_finite
public import proofs.«01_k».proof.Proof.Attn
public import proofs.«01_k».proof.Proof.Dense
public import proofs.«01_k».proof.Proof.Finite
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_counted
public import proofs.«01_k».proof.Proof.ExpertsCounts
public import proofs.«01_k».proof.Proof.ExpertsRef
public import proofs.«01_k».proof.Proof.ExpertsValue
public import proofs.«01_k».proof.Proof.ExpertsSame
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandIdeal.Value
public import proofs.«01_k».proof.Proof.Gen.BandRefIdeal
public import proofs.«01_k».proof.Proof.Gen.BandRefIdeal.Run
public import proofs.«01_k».proof.Proof.Gen.BandRefIdeal.Read
public import proofs.«01_k».proof.Proof.BandValue
public import proofs.«01_k».proof.Proof.BandRef
public import Idealize.ShloMosaic.Adequacy
public import Idealize.ShloMosaic.Init

@[expose] public section

noncomputable section

namespace Cert.Proof

open Idealize.ShloMosaic Idealize.SL.Sem Cert.Kernel

/-- The attention reference's run leaves its arguments unchanged and every counter at zero. -/
theorem attn_ref_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The dense reference's run leaves its arguments unchanged and every counter at zero. -/
theorem dense_ref_frame : Cert.quiescent_DenseRefIdeal (hDenseRefIdeal := Cert.DenseRefIdeal.Gen.facts) := fun m ρ _ =>
  (θ_run _ _ _).mono (fun r h => ⟨fun c => (h c).2, sem_eq_zero_of_no_sems (by decide) r.2⟩) (Cert.DenseRefIdeal.Value.run m ρ)

/-- The attention kernel and its reference end with the same array: the attention of the arguments. -/
theorem attn_alg : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hag => by
  refine ⟨fun c i => Cert.KernelIdeal.Hand.at' m c (i 0) (i 1), Cert.KernelIdeal.Hand.run m ρ, ?_⟩
  refine (θ_run _ _ _).mono (fun _ h c => ⟨(h c).1.trans ?_, (h c).2⟩) (Cert.ReferenceIdeal.Value.run m' ρ')
  obtain ⟨hq, hk⟩ := Finite.reals _ _ _ (hpre c)
  rw [Cert.ReferenceIdeal.Read.val_main_v29_eq, (hag c).1, (hag c).2.1, (hag c).2.2]
  funext i
  have hi : i = ix2 (i 0) (i 1) := by funext d; match d with | 0 => rfl | 1 => rfl
  rw [hi]
  exact Cert.ReferenceIdeal.Hand.out_eq _ _ _ hq hk (i 0) (i 1)

/-- The dense kernel and its reference end with the same array: the dense block of the arguments. -/
theorem dense_alg : Cert.algebraic_DenseIdeal_DenseRefIdeal (hDenseIdeal := Cert.DenseIdeal.Gen.facts)
    (hDenseRefIdeal := Cert.DenseRefIdeal.Gen.facts) := fun m ρ m' ρ' _ hag => by
  refine ⟨fun c => Cert.DenseIdeal.Hand.G m c, Cert.DenseIdeal.Hand.run m ρ, ?_⟩
  refine (θ_run _ _ _).mono (fun _ h c => ⟨(h c).1.trans ?_, (h c).2⟩) (Cert.DenseRefIdeal.Value.run m' ρ')
  funext i
  rw [Cert.DenseRefIdeal.Hand.res_eq, (hag c).1, (hag c).2.1, (hag c).2.2.1, (hag c).2.2.2.1, (hag c).2.2.2.2.1, (hag c).2.2.2.2.2.1, (hag c).2.2.2.2.2.2]
  rfl

/-- The counts of the experts, as the words the look-ups are made of. -/
abbrev counts {F : FTy → Type} (m : (ℓ : Loc Cert.ExpertsIdeal.nD Cert.ExpertsIdeal.τ Cert.ExpertsIdeal.sig) → Buf (Elt F) ℓ) : ℕ → ℕ := Cert.Exp.Counts.nat (Cert.Exp.cntOf m 0)

/-- The experts' call run on machine words leaves its arguments unchanged and every counter at zero. -/
theorem experts_frame : Cert.quiescent_Experts (hExperts := Cert.Experts.Gen.facts) (hPre_counted := Cert.Pre_counted.Gen.facts) := fun m ρ hpre =>
  Cert.Exp.Same.run_of_eq Cert.Exp.Same.defs_eq Cert.Exp.Same.main_eq _ _
    (Cert.Exp.frame (F := Bits) m (Cert.Exp.tbl_good m (counts m) (Cert.Exp.Counts.word _) (Cert.Exp.Counts.total _ _ _ _ _ (hpre 0))) ρ)

/-- The idealized experts' call leaves its arguments unchanged and every counter at zero. -/
theorem experts_ideal_frame : Cert.quiescent_ExpertsIdeal (hExpertsIdeal := Cert.ExpertsIdeal.Gen.facts) (hPre_counted := Cert.Pre_counted.Gen.facts) := fun m ρ hpre =>
  Cert.Exp.frame (F := Ideal) m (Cert.Exp.tbl_good m (counts m) (Cert.Exp.Counts.word _) (Cert.Exp.Counts.total _ _ _ _ _ (hpre 0))) ρ

/-- The experts' reference leaves its arguments unchanged and every counter at zero. -/
theorem experts_ref_frame : Cert.quiescent_ExpertsRefIdeal (hExpertsRefIdeal := Cert.ExpertsRefIdeal.Gen.facts) := fun m ρ _ =>
  (θ_run _ _ _).mono (fun r h => ⟨fun c => (h c).2, sem_eq_zero_of_no_sems (by decide) r.2⟩) (Cert.ExpertsRefIdeal.Value.run m ρ)

set_option maxHeartbeats 1000000 in
/-- The experts' call and its reference end with the same array: each row's feed-forward through the matrices of the expert that owns it. -/
theorem experts_alg : Cert.algebraic_ExpertsIdeal_ExpertsRefIdeal (hExpertsIdeal := Cert.ExpertsIdeal.Gen.facts)
    (hExpertsRefIdeal := Cert.ExpertsRefIdeal.Gen.facts) (hPre_counted := Cert.Pre_counted.Gen.facts) := fun m ρ m' ρ' hpre hag => by
  have hx := Cert.Exp.Counts.word (Cert.Exp.cntOf m 0)
  have hs : Cert.Sched.en (counts m) 7 = 131072 := Cert.Exp.Counts.total _ _ _ _ _ (hpre 0)
  refine ⟨fun c => Cert.Exp.G m (counts m) c, Cert.Exp.run m (counts m) (Cert.Exp.tbl_good m (counts m) hx hs) (Cert.Exp.tbl_follows m (counts m) hx hs) ρ, ?_⟩
  refine (θ_run _ _ _).mono (fun _ h c => ⟨(h c).1.trans ?_, (h c).2⟩) (Cert.ExpertsRefIdeal.Value.run m' ρ')
  obtain rfl : c = 0 := Subsingleton.elim _ _
  refine (Cert.ExpertsRefIdeal.Read.val_main_v130_eq _).trans ?_
  have e0 : StableHlo.launchContents m' 0 (Proc.devRef .tc Cert.ExpertsRefIdeal.main_arg0) = m (((0 : Dev Cert.ExpertsIdeal.nD).tc : Thread Cert.ExpertsIdeal.nD Cert.ExpertsIdeal.τ).loc Cert.ExpertsIdeal.main_arg0) := (hag 0).1
  have e1 : StableHlo.launchContents m' 0 (Proc.devRef .tc Cert.ExpertsRefIdeal.main_arg1) = m (((0 : Dev Cert.ExpertsIdeal.nD).tc : Thread Cert.ExpertsIdeal.nD Cert.ExpertsIdeal.τ).loc Cert.ExpertsIdeal.main_arg1) := (hag 0).2.1
  have e2 : StableHlo.launchContents m' 0 (Proc.devRef .tc Cert.ExpertsRefIdeal.main_arg2) = m (((0 : Dev Cert.ExpertsIdeal.nD).tc : Thread Cert.ExpertsIdeal.nD Cert.ExpertsIdeal.τ).loc Cert.ExpertsIdeal.main_arg2) := (hag 0).2.2.1
  have e3 : StableHlo.launchContents m' 0 (Proc.devRef .tc Cert.ExpertsRefIdeal.main_arg3) = m (((0 : Dev Cert.ExpertsIdeal.nD).tc : Thread Cert.ExpertsIdeal.nD Cert.ExpertsIdeal.τ).loc Cert.ExpertsIdeal.main_arg3) := (hag 0).2.2.2.1
  have e4 : StableHlo.launchContents m' 0 (Proc.devRef .tc Cert.ExpertsRefIdeal.main_arg4) = m (((0 : Dev Cert.ExpertsIdeal.nD).tc : Thread Cert.ExpertsIdeal.nD Cert.ExpertsIdeal.τ).loc Cert.ExpertsIdeal.main_arg4) := (hag 0).2.2.2.2
  rw [e0, e1, e2, e3, e4]
  funext i
  have hi : i = ix2 (i 0) (i 1) := by funext d; match d with | 0 => rfl | 1 => rfl
  rw [hi]
  refine Cert.ExpertsRefIdeal.Hand.ref_at (Cert.Exp.cntOf m 0) (counts m) hx hs _ _ _ _ (i 0) (i 1) (Cert.Exp.own (counts m) (i 0).val) ?_
  obtain ⟨e, he, h1, h2⟩ := Cert.Sched.exists_span (counts m) (x := (i 0).val) (hs ▸ (i 0).isLt)
  have ho := Cert.Sched.owner_eq (counts m) he h1 h2
  show Cert.Sched.owner (counts m) (i 0).val = Cert.Sched.owner (counts m) (i 0).val % 8
  rw [ho]
  exact (Nat.mod_eq_of_lt he).symm

/-- The band's reference leaves its arguments unchanged and every counter at zero. -/
theorem band_ref_frame : Cert.quiescent_BandRefIdeal (hBandRefIdeal := Cert.BandRefIdeal.Gen.facts) := fun m ρ _ =>
  (θ_run _ _ _).mono (fun r h => ⟨fun c => (h c).2.2.2, sem_eq_zero_of_no_sems (by decide) r.2⟩) (Cert.BandRefIdeal.Value.run m ρ)

/-- The band's kernel and its reference end with the same keys, values and queries. -/
theorem band_alg : Cert.algebraic_BandIdeal_BandRefIdeal (hBandIdeal := Cert.BandIdeal.Gen.facts)
    (hBandRefIdeal := Cert.BandRefIdeal.Gen.facts) := fun m ρ m' ρ' _ hag => by
  refine ⟨fun c => Cert.BandIdeal.Hand.K m c, fun c => Cert.BandIdeal.Hand.W m c, fun c => Cert.BandIdeal.Hand.Q m c, Cert.BandIdeal.Hand.run m ρ, ?_⟩
  refine (θ_run _ _ _).mono (fun _ h c => ⟨(h c).1.trans ?_, (h c).2.1.trans ?_, (h c).2.2.1.trans ?_, (h c).2.2.2⟩) (Cert.BandRefIdeal.Value.run m' ρ')
  · refine (Cert.BandRefIdeal.Read.val_main_v60_eq _ _ _ _).trans ?_
    rw [(hag c).1, (hag c).2.1, (hag c).2.2.2.1, (hag c).2.2.2.2.2.2.1]
    exact funext fun i => Cert.BandRefIdeal.Hand.k_eq _ _ _ _ i
  · refine (Cert.BandRefIdeal.Read.val_main_v61_eq _ _ _).trans ?_
    rw [(hag c).1, (hag c).2.1, (hag c).2.2.2.2.1]
    exact funext fun i => Cert.BandRefIdeal.Hand.v_eq _ _ _ i
  · refine (Cert.BandRefIdeal.Read.val_main_v63_eq _ _ _ _).trans ?_
    rw [(hag c).1, (hag c).2.2.1, (hag c).2.2.2.2.2.1, (hag c).2.2.2.2.2.2.2]
    exact funext fun i => Cert.BandRefIdeal.Hand.q_eq _ _ _ _ i

/-- Everything the certificate claims. -/
theorem claim : Cert.Claim := ⟨Cert.Kernel.Gen.facts, Cert.KernelIdeal.Gen.facts, Cert.ReferenceIdeal.Gen.facts, Cert.Dense.Gen.facts, Cert.DenseIdeal.Gen.facts, Cert.DenseRefIdeal.Gen.facts,
  Cert.Experts.Gen.facts, Cert.ExpertsIdeal.Gen.facts, Cert.ExpertsRefIdeal.Gen.facts, Cert.Band.Gen.facts, Cert.BandIdeal.Gen.facts, Cert.BandRefIdeal.Gen.facts, Cert.Pre_finite.Gen.facts, Cert.Pre_counted.Gen.facts,
  fun m ρ _ => Cert.Kernel.Gen.frame m ρ, fun m ρ _ => Cert.KernelIdeal.Gen.frame m ρ, fun m ρ _ => Cert.KernelIdeal.Gen.frame m ρ,
  attn_ref_frame, fun m ρ _ => attn_ref_frame m ρ trivial,
  fun m ρ _ => Cert.Dense.Gen.frame m ρ, fun m ρ _ => Cert.DenseIdeal.Gen.frame m ρ, dense_ref_frame,
  experts_frame, experts_ideal_frame, experts_ref_frame, fun m ρ _ => experts_ref_frame m ρ trivial,
  fun m ρ _ => Cert.Band.Gen.frame m ρ, fun m ρ _ => Cert.BandIdeal.Gen.frame m ρ, band_ref_frame,
  IdealRules.named_const.statement Cert.KernelIdeal.κ "mask" .f32 0xF149F2CA#32 ⊥ rfl, attn_alg, trivial, dense_alg, trivial, experts_alg, trivial, band_alg⟩

end Cert.Proof

end
